-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_problem_indices [hPre_problem_indices : Cert.Pre_problem_indices.Facts] (m : (ℓ : Loc Cert.KernelIdeal.nD Cert.KernelIdeal.τ Cert.KernelIdeal.sig) → Buf (Elt Ideal) ℓ) : Prop :=
  ∀ c : Dev Cert.KernelIdeal.nD,
    (Cert.Pre_problem_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_problem_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_problem_indices [hPre_problem_indices : Cert.Pre_problem_indices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_problem_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_problem_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_problem_indices [hKernelIdeal : Cert.KernelIdeal.Facts] [hPre_problem_indices : Cert.Pre_problem_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_problem_indices m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_problem_indices [hReferenceIdeal : Cert.ReferenceIdeal.Facts] [hPre_problem_indices : Cert.Pre_problem_indices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_problem_indices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_problem_indices [hKernelIdeal : Cert.KernelIdeal.Facts] [hReferenceIdeal : Cert.ReferenceIdeal.Facts] [hPre_problem_indices : Cert.Pre_problem_indices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_problem_indices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_problem_indices : Cert.Pre_problem_indices.Facts),
    quiescent_Kernel (hKernel := hKernel)
    ∧ quiescent_KernelIdeal (hKernelIdeal := hKernelIdeal)
    ∧ quiescent_KernelIdeal_pre_problem_indices (hKernelIdeal := hKernelIdeal) (hPre_problem_indices := hPre_problem_indices)
    ∧ quiescent_ReferenceIdeal (hReferenceIdeal := hReferenceIdeal)
    ∧ quiescent_ReferenceIdeal_pre_problem_indices (hReferenceIdeal := hReferenceIdeal) (hPre_problem_indices := hPre_problem_indices)
    ∧ preserves_Kernel_KernelIdeal
    ∧ algebraic_KernelIdeal_ReferenceIdeal_pre_problem_indices (hKernelIdeal := hKernelIdeal) (hReferenceIdeal := hReferenceIdeal) (hPre_problem_indices := hPre_problem_indices)
-- ==== Pre_problem_indices.lean ====
abbrev S16x1024x1024 : Shape := ⟨3, ![16, 1024, 1024]⟩
abbrev S73984 : Shape := ⟨1, ![73984]⟩
abbrev S1024x1024 : Shape := ⟨2, ![1024, 1024]⟩
abbrev S_ : Shape := ⟨0, ![]⟩
abbrev S73984x1 : Shape := ⟨2, ![73984, 1]⟩
abbrev S73984x2 : Shape := ⟨2, ![73984, 2]⟩

class Facts : Prop where
  bcast_S_S1024x1024 : S_.BroadcastsInDim S1024x1024 (![] : Fin 0 → Fin S1024x1024.rank)
  bcast_S_S73984 : S_.BroadcastsInDim S73984 (![] : Fin 0 → Fin S73984.rank)
  bcast_S73984_S73984x1_0 : S73984.BroadcastsInDim S73984x1 (![0] : Fin 1 → Fin S73984x1.rank)
  concatenates_S73984x1_S73984x1_S73984x2_d1 : Shape.Concatenates [S73984x1, S73984x1] S73984x2 1
  natLt_1_32 : 1 < 32
  scatter_S1024x1024_S73984x2_S73984_n_01_01_1_wf : ScatterDims.WF S1024x1024 S73984x2 S73984 [] [0, 1] [0, 1] 1

variable [Facts]

def scatter_S1024x1024_S73984x2_S73984_n_01_01_1 : ScatterDims S1024x1024 S73984x2 S73984 where
  updateWindowDims := []
  insertedWindowDims := [0, 1]
  scatterDimsToOperandDims := [0, 1]
  indexVectorDim := 1
  wf := scatter_S1024x1024_S73984x2_S73984_n_01_01_1_wf
def fn_part5 {F : FTy → Type} [FloatOps F] (main_arg2 : IVec S73984 32) (main_arg4 : IVec S73984 32) (main_v62 : IVec S1024x1024 1) (main_v86 : IVec S73984 1) (main_v87 : IVec S73984 32) : IVec S1024x1024 1 × IVec S73984 1 :=
  let main_v88 : IVec S73984 32 := Host.divsi main_arg2 main_v87
  let main_c_31 : IVec S_ 32 := constantI S_ 32 32#32
  let main_v89 : IVec S73984 32 := broadcastInDim S73984 ![] bcast_S_S73984 main_c_31
  let main_v90 : IVec S73984 32 := Host.remsi main_arg2 main_v89
  let main_c_32 : IVec S_ 32 := constantI S_ 32 2#32
  let main_v91 : IVec S73984 32 := broadcastInDim S73984 ![] bcast_S_S73984 main_c_32
  let main_v92 : IVec S73984 32 := Host.divsi main_v88 main_v91
  let main_c_33 : IVec S_ 32 := constantI S_ 32 16#32
  let main_v93 : IVec S73984 32 := broadcastInDim S73984 ![] bcast_S_S73984 main_c_33
  let main_v94 : IVec S73984 32 := muli main_v92 main_v93
  let main_c_34 : IVec S_ 32 := constantI S_ 32 2#32
  let main_v95 : IVec S73984 32 := broadcastInDim S73984 ![] bcast_S_S73984 main_c_34
  let main_v96 : IVec S73984 32 := Host.divsi main_v90 main_v95
  let main_v97 : IVec S73984 32 := addi main_v94 main_v96
  let main_v98 : IVec S73984 1 := cmpi .eq main_arg4 main_v97
  let main_v99 : IVec S73984 1 := andi main_v86 main_v98
  (main_v62, main_v99)

def fn_part4 {F : FTy → Type} [FloatOps F] (main_arg1 : IVec S73984 32) (main_arg2 : IVec S73984 32) (main_arg3 : IVec S73984 32) (main_arg4 : IVec S73984 32) (main_v62 : IVec S1024x1024 1) (main_v67 : IVec S73984 1) (main_v69 : IVec S73984 1) (main_c_24 : IVec S_ 32) : IVec S1024x1024 1 × IVec S73984 1 :=
  let main_v70 : IVec S73984 32 := broadcastInDim S73984 ![] bcast_S_S73984 main_c_24
  let main_v71 : IVec S73984 1 := cmpi .slt main_arg2 main_v70
  let main_v72 : IVec S73984 1 := andi main_v69 main_v71
  let main_v73 : IVec S73984 1 := andi main_v67 main_v72
  let main_c_25 : IVec S_ 32 := constantI S_ 32 32#32
  let main_v74 : IVec S73984 32 := broadcastInDim S73984 ![] bcast_S_S73984 main_c_25
  let main_v75 : IVec S73984 32 := Host.divsi main_arg1 main_v74
  let main_c_26 : IVec S_ 32 := constantI S_ 32 32#32
  let main_v76 : IVec S73984 32 := broadcastInDim S73984 ![] bcast_S_S73984 main_c_26
  let main_v77 : IVec S73984 32 := Host.remsi main_arg1 main_v76
  let main_c_27 : IVec S_ 32 := constantI S_ 32 2#32
  let main_v78 : IVec S73984 32 := broadcastInDim S73984 ![] bcast_S_S73984 main_c_27
  let main_v79 : IVec S73984 32 := Host.divsi main_v75 main_v78
  let main_c_28 : IVec S_ 32 := constantI S_ 32 16#32
  let main_v80 : IVec S73984 32 := broadcastInDim S73984 ![] bcast_S_S73984 main_c_28
  let main_v81 : IVec S73984 32 := muli main_v79 main_v80
  let main_c_29 : IVec S_ 32 := constantI S_ 32 2#32
  let main_v82 : IVec S73984 32 := broadcastInDim S73984 ![] bcast_S_S73984 main_c_29
  let main_v83 : IVec S73984 32 := Host.divsi main_v77 main_v82
  let main_v84 : IVec S73984 32 := addi main_v81 main_v83
  let main_v85 : IVec S73984 1 := cmpi .eq main_arg3 main_v84
  let main_v86 : IVec S73984 1 := andi main_v73 main_v85
  let main_c_30 : IVec S_ 32 := constantI S_ 32 32#32
  let main_v87 : IVec S73984 32 := broadcastInDim S73984 ![] bcast_S_S73984 main_c_30
  fn_part5 (F := F) main_arg2 main_arg4 main_v62 main_v86 main_v87

def fn_part3 {F : FTy → Type} [FloatOps F] (main_arg1 : IVec S73984 32) (main_arg2 : IVec S73984 32) (main_arg3 : IVec S73984 32) (main_arg4 : IVec S73984 32) (main_v44 : IVec S1024x1024 1) (main_v45 : IVec S1024x1024 32) (main_v50 : IVec S73984 32) (main_v51 : IVec S73984 32) : IVec S1024x1024 1 × IVec S73984 1 :=
  let main_v52 : IVec S73984 1 := cmpi .slt main_arg2 main_v51
  let main_c_19 : IVec S_ 32 := constantI S_ 32 1024#32
  let main_v53 : IVec S73984 32 := broadcastInDim S73984 ![] bcast_S_S73984 main_c_19
  let main_v54 : IVec S73984 32 := addi main_arg2 main_v53
  let main_v55 : IVec S73984 32 := select main_v52 main_v54 main_arg2
  let main_v56 : IVec S73984x1 32 := broadcastInDim S73984x1 ![0] bcast_S73984_S73984x1_0 main_v50
  let main_v57 : IVec S73984x1 32 := broadcastInDim S73984x1 ![0] bcast_S73984_S73984x1_0 main_v55
  let main_v58 : IVec S73984x2 32 := (fun a b => concatenate S73984x2 1 [⟨S73984x1, a⟩, ⟨S73984x1, b⟩] concatenates_S73984x1_S73984x1_S73984x2_d1) main_v56 main_v57
  let main_c_20 : IVec S_ 32 := constantI S_ 32 1#32
  let main_v59 : IVec S73984 32 := broadcastInDim S73984 ![] bcast_S_S73984 main_c_20
  let main_v60 : IVec S1024x1024 32 := (fun x i u => Host.scatter scatter_S1024x1024_S73984x2_S73984_n_01_01_1 IntOp.addi x i u) main_v45 main_v58 main_v59
  let main_v61 : IVec S1024x1024 32 := (extui 32 · natLt_1_32) main_v44
  let main_v62 : IVec S1024x1024 1 := cmpi .eq main_v60 main_v61
  let main_c_21 : IVec S_ 32 := constantI S_ 32 0#32
  let main_v63 : IVec S73984 32 := broadcastInDim S73984 ![] bcast_S_S73984 main_c_21
  let main_v64 : IVec S73984 1 := cmpi .sge main_arg1 main_v63
  let main_c_22 : IVec S_ 32 := constantI S_ 32 1024#32
  let main_v65 : IVec S73984 32 := broadcastInDim S73984 ![] bcast_S_S73984 main_c_22
  let main_v66 : IVec S73984 1 := cmpi .slt main_arg1 main_v65
  let main_v67 : IVec S73984 1 := andi main_v64 main_v66
  let main_c_23 : IVec S_ 32 := constantI S_ 32 0#32
  let main_v68 : IVec S73984 32 := broadcastInDim S73984 ![] bcast_S_S73984 main_c_23
  let main_v69 : IVec S73984 1 := cmpi .sge main_arg2 main_v68
  let main_c_24 : IVec S_ 32 := constantI S_ 32 1024#32
  fn_part4 (F := F) main_arg1 main_arg2 main_arg3 main_arg4 main_v62 main_v67 main_v69 main_c_24

def fn_part2 {F : FTy → Type} [FloatOps F] (main_arg1 : IVec S73984 32) (main_arg2 : IVec S73984 32) (main_arg3 : IVec S73984 32) (main_arg4 : IVec S73984 32) (main_v3 : IVec S1024x1024 32) (main_v5 : IVec S1024x1024 32) (main_v7 : IVec S1024x1024 32) (main_v9 : IVec S1024x1024 32) (main_v28 : IVec S1024x1024 1) (main_v33 : IVec S1024x1024 1) : IVec S1024x1024 1 × IVec S73984 1 :=
  let main_v34 : IVec S1024x1024 1 := cmpi .eq main_v3 main_v7
  let main_v35 : IVec S1024x1024 1 := ori main_v33 main_v34
  let main_v36 : IVec S1024x1024 1 := andi main_v28 main_v35
  let main_c_13 : IVec S_ 32 := constantI S_ 32 2#32
  let main_v37 : IVec S1024x1024 32 := broadcastInDim S1024x1024 ![] bcast_S_S1024x1024 main_c_13
  let main_v38 : IVec S1024x1024 32 := Host.remsi main_v5 main_v37
  let main_c_14 : IVec S_ 32 := constantI S_ 32 0#32
  let main_v39 : IVec S1024x1024 32 := broadcastInDim S1024x1024 ![] bcast_S_S1024x1024 main_c_14
  let main_v40 : IVec S1024x1024 1 := cmpi .ne main_v38 main_v39
  let main_v41 : IVec S1024x1024 1 := noti main_v40
  let main_v42 : IVec S1024x1024 1 := cmpi .eq main_v5 main_v9
  let main_v43 : IVec S1024x1024 1 := ori main_v41 main_v42
  let main_v44 : IVec S1024x1024 1 := andi main_v36 main_v43
  let main_c_15 : IVec S_ 32 := constantI S_ 32 0#32
  let main_v45 : IVec S1024x1024 32 := broadcastInDim S1024x1024 ![] bcast_S_S1024x1024 main_c_15
  let main_c_16 : IVec S_ 32 := constantI S_ 32 0#32
  let main_v46 : IVec S73984 32 := broadcastInDim S73984 ![] bcast_S_S73984 main_c_16
  let main_v47 : IVec S73984 1 := cmpi .slt main_arg1 main_v46
  let main_c_17 : IVec S_ 32 := constantI S_ 32 1024#32
  let main_v48 : IVec S73984 32 := broadcastInDim S73984 ![] bcast_S_S73984 main_c_17
  let main_v49 : IVec S73984 32 := addi main_arg1 main_v48
  let main_v50 : IVec S73984 32 := select main_v47 main_v49 main_arg1
  let main_c_18 : IVec S_ 32 := constantI S_ 32 0#32
  let main_v51 : IVec S73984 32 := broadcastInDim S73984 ![] bcast_S_S73984 main_c_18
  fn_part3 (F := F) main_arg1 main_arg2 main_arg3 main_arg4 main_v44 main_v45 main_v50 main_v51

def fn_part1 {F : FTy → Type} [FloatOps F] (main_arg1 : IVec S73984 32) (main_arg2 : IVec S73984 32) (main_arg3 : IVec S73984 32) (main_arg4 : IVec S73984 32) (main_v3 : IVec S1024x1024 32) (main_v5 : IVec S1024x1024 32) (main_v7 : IVec S1024x1024 32) (main_v9 : IVec S1024x1024 32) (main_v13 : IVec S1024x1024 1) (main_v15 : IVec S1024x1024 32) (main_c_6 : IVec S_ 32) : IVec S1024x1024 1 × IVec S73984 1 :=
  let main_v16 : IVec S1024x1024 32 := broadcastInDim S1024x1024 ![] bcast_S_S1024x1024 main_c_6
  let main_v17 : IVec S1024x1024 1 := cmpi .ne main_v15 main_v16
  let main_v18 : IVec S1024x1024 1 := cmpi .eq main_v13 main_v17
  let main_c_7 : IVec S_ 32 := constantI S_ 32 2#32
  let main_v19 : IVec S1024x1024 32 := broadcastInDim S1024x1024 ![] bcast_S_S1024x1024 main_c_7
  let main_v20 : IVec S1024x1024 32 := Host.remsi main_v5 main_v19
  let main_c_8 : IVec S_ 32 := constantI S_ 32 0#32
  let main_v21 : IVec S1024x1024 32 := broadcastInDim S1024x1024 ![] bcast_S_S1024x1024 main_c_8
  let main_v22 : IVec S1024x1024 1 := cmpi .ne main_v20 main_v21
  let main_c_9 : IVec S_ 32 := constantI S_ 32 2#32
  let main_v23 : IVec S1024x1024 32 := broadcastInDim S1024x1024 ![] bcast_S_S1024x1024 main_c_9
  let main_v24 : IVec S1024x1024 32 := Host.remsi main_v9 main_v23
  let main_c_10 : IVec S_ 32 := constantI S_ 32 0#32
  let main_v25 : IVec S1024x1024 32 := broadcastInDim S1024x1024 ![] bcast_S_S1024x1024 main_c_10
  let main_v26 : IVec S1024x1024 1 := cmpi .ne main_v24 main_v25
  let main_v27 : IVec S1024x1024 1 := cmpi .eq main_v22 main_v26
  let main_v28 : IVec S1024x1024 1 := andi main_v18 main_v27
  let main_c_11 : IVec S_ 32 := constantI S_ 32 2#32
  let main_v29 : IVec S1024x1024 32 := broadcastInDim S1024x1024 ![] bcast_S_S1024x1024 main_c_11
  let main_v30 : IVec S1024x1024 32 := Host.remsi main_v3 main_v29
  let main_c_12 : IVec S_ 32 := constantI S_ 32 0#32
  let main_v31 : IVec S1024x1024 32 := broadcastInDim S1024x1024 ![] bcast_S_S1024x1024 main_c_12
  let main_v32 : IVec S1024x1024 1 := cmpi .ne main_v30 main_v31
  let main_v33 : IVec S1024x1024 1 := noti main_v32
  fn_part2 (F := F) main_arg1 main_arg2 main_arg3 main_arg4 main_v3 main_v5 main_v7 main_v9 main_v28 main_v33

def fn {F : FTy → Type} [FloatOps F] (main_arg0 : FVec F S16x1024x1024 .f32) (main_arg1 : IVec S73984 32) (main_arg2 : IVec S73984 32) (main_arg3 : IVec S73984 32) (main_arg4 : IVec S73984 32) : IVec S1024x1024 1 × IVec S73984 1 :=
  let main_v0 : IVec S1024x1024 32 := iotaInDim S1024x1024 32 0
  let main_v1 : IVec S1024x1024 32 := iotaInDim S1024x1024 32 1
  let main_c : IVec S_ 32 := constantI S_ 32 32#32
  let main_v2 : IVec S1024x1024 32 := broadcastInDim S1024x1024 ![] bcast_S_S1024x1024 main_c
  let main_v3 : IVec S1024x1024 32 := Host.divsi main_v0 main_v2
  let main_c_0 : IVec S_ 32 := constantI S_ 32 32#32
  let main_v4 : IVec S1024x1024 32 := broadcastInDim S1024x1024 ![] bcast_S_S1024x1024 main_c_0
  let main_v5 : IVec S1024x1024 32 := Host.remsi main_v0 main_v4
  let main_c_1 : IVec S_ 32 := constantI S_ 32 32#32
  let main_v6 : IVec S1024x1024 32 := broadcastInDim S1024x1024 ![] bcast_S_S1024x1024 main_c_1
  let main_v7 : IVec S1024x1024 32 := Host.divsi main_v1 main_v6
  let main_c_2 : IVec S_ 32 := constantI S_ 32 32#32
  let main_v8 : IVec S1024x1024 32 := broadcastInDim S1024x1024 ![] bcast_S_S1024x1024 main_c_2
  let main_v9 : IVec S1024x1024 32 := Host.remsi main_v1 main_v8
  let main_c_3 : IVec S_ 32 := constantI S_ 32 2#32
  let main_v10 : IVec S1024x1024 32 := broadcastInDim S1024x1024 ![] bcast_S_S1024x1024 main_c_3
  let main_v11 : IVec S1024x1024 32 := Host.remsi main_v3 main_v10
  let main_c_4 : IVec S_ 32 := constantI S_ 32 0#32
  let main_v12 : IVec S1024x1024 32 := broadcastInDim S1024x1024 ![] bcast_S_S1024x1024 main_c_4
  let main_v13 : IVec S1024x1024 1 := cmpi .ne main_v11 main_v12
  let main_c_5 : IVec S_ 32 := constantI S_ 32 2#32
  let main_v14 : IVec S1024x1024 32 := broadcastInDim S1024x1024 ![] bcast_S_S1024x1024 main_c_5
  let main_v15 : IVec S1024x1024 32 := Host.remsi main_v7 main_v14
  let main_c_6 : IVec S_ 32 := constantI S_ 32 0#32
  fn_part1 (F := F) main_arg1 main_arg2 main_arg3 main_arg4 main_v3 main_v5 main_v7 main_v9 main_v13 main_v15 main_c_6
-- ==== Kernel.lean ====
abbrev S16x1024x1024 : Shape := ⟨3, ![16, 1024, 1024]⟩
abbrev S73984 : Shape := ⟨1, ![73984]⟩
abbrev S16x256x256 : Shape := ⟨3, ![16, 256, 256]⟩
abbrev S32x1024 : Shape := ⟨2, ![32, 1024]⟩
abbrev S32x128 : Shape := ⟨2, ![32, 128]⟩
abbrev S16x256 : Shape := ⟨2, ![16, 256]⟩
abbrev S_ : Shape := ⟨0, ![]⟩
abbrev S16 : Shape := ⟨1, ![16]⟩
abbrev S1x32x1024 : Shape := ⟨3, ![1, 32, 1024]⟩
abbrev S1x32x128 : Shape := ⟨3, ![1, 32, 128]⟩
abbrev S1x16 : Shape := ⟨2, ![1, 16]⟩
abbrev S1x16x256 : Shape := ⟨3, ![1, 16, 256]⟩

abbrev nBuf : Table → Nat
  | .hbm => 6
  | .local .scVector .vmem => 6
  | _ => 0

abbrev bufTy : (tb : Table) → Fin (nBuf tb) → BufTy
  | .hbm, ⟨0, _⟩ => ⟨S16x1024x1024, .f32⟩
  | .hbm, ⟨1, _⟩ => ⟨S73984, .i32⟩
  | .hbm, ⟨2, _⟩ => ⟨S73984, .i32⟩
  | .hbm, ⟨3, _⟩ => ⟨S73984, .i32⟩
  | .hbm, ⟨4, _⟩ => ⟨S73984, .i32⟩
  | .hbm, ⟨5, _⟩ => ⟨S16x256x256, .f32⟩
  | .local .scVector .vmem, ⟨0, _⟩ => ⟨S32x1024, .f32⟩
  | .local .scVector .vmem, ⟨1, _⟩ => ⟨S32x1024, .f32⟩
  | .local .scVector .vmem, ⟨2, _⟩ => ⟨S32x128, .f32⟩
  | .local .scVector .vmem, ⟨3, _⟩ => ⟨S32x128, .f32⟩
  | .local .scVector .vmem, ⟨4, _⟩ => ⟨S16x256, .f32⟩
  | .local .scVector .vmem, ⟨5, _⟩ => ⟨S16x256, .f32⟩
  | _, _ => ⟨S16x1024x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg0_scv : Ref sig .scVector := ⟨.hbm, 0, rfl⟩
abbrev main_v0_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c4_i32 : BitVec 32 := 4#32
  let v4 : BitVec 32 := Scalar.shrsi v2 c4_i32
  let c64_i32 : BitVec 32 := 64#32
  let c15_i32 : BitVec 32 := 15#32
  let v5 : BitVec 32 := Scalar.andi v2 c15_i32
  let v6 : BitVec 32 := Scalar.muli c64_i32 v5
  let c0_i32 : BitVec 32 := 0#32
  ![v4.toNat, v6.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c4_i32 : BitVec 32 := 4#32
  let v4 : BitVec 32 := Scalar.shrsi v2 c4_i32
  let c64_i32 : BitVec 32 := 64#32
  let c15_i32 : BitVec 32 := 15#32
  let v5 : BitVec 32 := Scalar.andi v2 c15_i32
  let v6 : BitVec 32 := Scalar.muli c64_i32 v5
  let c32_i32 : BitVec 32 := 32#32
  let v11 : BitVec 32 := Scalar.addi v6 c32_i32
  let c32_i32_1 : BitVec 32 := 32#32
  let v12 : BitVec 32 := Scalar.addi v6 c32_i32_1
  let c0_i32_2 : BitVec 32 := 0#32
  let v14 : BitVec 1 := Scalar.cmpi .sgt v12 c0_i32_2
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c128_i32 : BitVec 32 := 128#32
  let c0_i32_4 : BitVec 32 := 0#32
  let v19 : BitVec 1 := Scalar.cmpi .sgt c128_i32 c0_i32_4
  let v20 : BitVec 32 := Scalar.extui v19
  let c0_i32_5 : BitVec 32 := 0#32
  let v21 : BitVec 1 := Scalar.cmpi .slt c128_i32 c0_i32_5
  let v22 : BitVec 32 := Scalar.extui v21
  let v23 : BitVec 32 := Scalar.subi v20 v22
  let v24 : BitVec 1 := Scalar.cmpi .ne v18 v23
  let v25 : BitVec 32 := Scalar.remsi v12 c128_i32
  let c0_i32_6 : BitVec 32 := 0#32
  let v26 : BitVec 1 := Scalar.cmpi .ne v25 c0_i32_6
  let v27 : BitVec 1 := Scalar.andi v24 v26
  let v13 : BitVec 32 := Scalar.divsi v12 c128_i32
  let c1_i32 : BitVec 32 := 1#32
  let v28 : BitVec 32 := Scalar.subi v13 c1_i32
  let v29 : BitVec 32 := Scalar.select v27 v28 v13
  let c128_i32_7 : BitVec 32 := 128#32
  let v30 : BitVec 32 := Scalar.muli v29 c128_i32_7
  ![v4.toNat, v11.toNat, v30.toNat]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_8 : BitVec 32 := 1#32
  let v35 : BitVec 32 := Scalar.addi v2 c1_i32_8
  let c4_i32_9 : BitVec 32 := 4#32
  let v36 : BitVec 32 := Scalar.shrsi v35 c4_i32_9
  let c64_i32_11 : BitVec 32 := 64#32
  let c15_i32_10 : BitVec 32 := 15#32
  let v37 : BitVec 32 := Scalar.andi v35 c15_i32_10
  let v38 : BitVec 32 := Scalar.muli c64_i32_11 v37
  let c0_i32_12 : BitVec 32 := 0#32
  ![v36.toNat, v38.toNat, 0]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_8 : BitVec 32 := 1#32
  let v35 : BitVec 32 := Scalar.addi v2 c1_i32_8
  let c4_i32_9 : BitVec 32 := 4#32
  let v36 : BitVec 32 := Scalar.shrsi v35 c4_i32_9
  let c64_i32_11 : BitVec 32 := 64#32
  let c15_i32_10 : BitVec 32 := 15#32
  let v37 : BitVec 32 := Scalar.andi v35 c15_i32_10
  let v38 : BitVec 32 := Scalar.muli c64_i32_11 v37
  let c32_i32_14 : BitVec 32 := 32#32
  let v43 : BitVec 32 := Scalar.addi v38 c32_i32_14
  let c32_i32_15 : BitVec 32 := 32#32
  let v44 : BitVec 32 := Scalar.addi v38 c32_i32_15
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c128_i32_16 : BitVec 32 := 128#32
  let c0_i32_19 : BitVec 32 := 0#32
  let v51 : BitVec 1 := Scalar.cmpi .sgt c128_i32_16 c0_i32_19
  let v52 : BitVec 32 := Scalar.extui v51
  let c0_i32_20 : BitVec 32 := 0#32
  let v53 : BitVec 1 := Scalar.cmpi .slt c128_i32_16 c0_i32_20
  let v54 : BitVec 32 := Scalar.extui v53
  let v55 : BitVec 32 := Scalar.subi v52 v54
  let v56 : BitVec 1 := Scalar.cmpi .ne v50 v55
  let v57 : BitVec 32 := Scalar.remsi v44 c128_i32_16
  let c0_i32_21 : BitVec 32 := 0#32
  let v58 : BitVec 1 := Scalar.cmpi .ne v57 c0_i32_21
  let v59 : BitVec 1 := Scalar.andi v56 v58
  let v45 : BitVec 32 := Scalar.divsi v44 c128_i32_16
  let c1_i32_22 : BitVec 32 := 1#32
  let v60 : BitVec 32 := Scalar.subi v45 c1_i32_22
  let v61 : BitVec 32 := Scalar.select v59 v60 v45
  let c128_i32_23 : BitVec 32 := 128#32
  let v62 : BitVec 32 := Scalar.muli v61 c128_i32_23
  ![v36.toNat, v43.toNat, v62.toNat]
@[reducible] def k0_t1_loop : Scf.Loop 32 :=
  let c0_i32_46 : BitVec 32 := 0#32
  let c16_i32_47 : BitVec 32 := 16#32
  let v91 : BitVec 32 := Scalar.addi c0_i32_46 c16_i32_47
  let c1_i32_48 : BitVec 32 := 1#32
  ⟨c0_i32_46, v91, c1_i32_48⟩

def k0_chk1 (v200 : IVec S16 32) (v206 : IVec S16 32) : Prop :=
  (∀ a x, ((![v200, v206] : Fin 2 → IVec S16 32) a x).toNat < S32x1024.size a)
theorem k0_idx1_inb : ∀ (v200 : IVec S16 32) (v206 : IVec S16 32) (k0_hw1 : k0_chk1 v200 v206), ∀ a x, ((![v200, v206] : Fin 2 → IVec S16 32) a x).toNat < S32x1024.size a := fun v200 v206 k0_hw1 => k0_hw1
def k0_off5 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v208 : Index := Scalar.indexCast arg16
  let c0 : Index := 0#32
  ![v208.toNat, 0]

def k0_chk2 (v200 : IVec S16 32) (v213 : IVec S16 32) : Prop :=
  (∀ a x, ((![v200, v213] : Fin 2 → IVec S16 32) a x).toNat < S32x1024.size a)
theorem k0_idx2_inb : ∀ (v200 : IVec S16 32) (v213 : IVec S16 32) (k0_hw2 : k0_chk2 v200 v213), ∀ a x, ((![v200, v213] : Fin 2 → IVec S16 32) a x).toNat < S32x1024.size a := fun v200 v213 k0_hw2 => k0_hw2
def k0_off6 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v215 : Index := Scalar.indexCast arg16
  let c16 : Index := 16#32
  ![v215.toNat, 16]

def k0_chk3 (v200 : IVec S16 32) (v220 : IVec S16 32) : Prop :=
  (∀ a x, ((![v200, v220] : Fin 2 → IVec S16 32) a x).toNat < S32x1024.size a)
theorem k0_idx3_inb : ∀ (v200 : IVec S16 32) (v220 : IVec S16 32) (k0_hw3 : k0_chk3 v200 v220), ∀ a x, ((![v200, v220] : Fin 2 → IVec S16 32) a x).toNat < S32x1024.size a := fun v200 v220 k0_hw3 => k0_hw3
def k0_off7 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v222 : Index := Scalar.indexCast arg16
  let c32 : Index := 32#32
  ![v222.toNat, 32]

def k0_chk4 (v200 : IVec S16 32) (v227 : IVec S16 32) : Prop :=
  (∀ a x, ((![v200, v227] : Fin 2 → IVec S16 32) a x).toNat < S32x1024.size a)
theorem k0_idx4_inb : ∀ (v200 : IVec S16 32) (v227 : IVec S16 32) (k0_hw4 : k0_chk4 v200 v227), ∀ a x, ((![v200, v227] : Fin 2 → IVec S16 32) a x).toNat < S32x1024.size a := fun v200 v227 k0_hw4 => k0_hw4
def k0_off8 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v229 : Index := Scalar.indexCast arg16
  let c48 : Index := 48#32
  ![v229.toNat, 48]

def k0_chk5 (v200 : IVec S16 32) (v234 : IVec S16 32) : Prop :=
  (∀ a x, ((![v200, v234] : Fin 2 → IVec S16 32) a x).toNat < S32x1024.size a)
theorem k0_idx5_inb : ∀ (v200 : IVec S16 32) (v234 : IVec S16 32) (k0_hw5 : k0_chk5 v200 v234), ∀ a x, ((![v200, v234] : Fin 2 → IVec S16 32) a x).toNat < S32x1024.size a := fun v200 v234 k0_hw5 => k0_hw5
def k0_off9 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v236 : Index := Scalar.indexCast arg16
  let c64 : Index := 64#32
  ![v236.toNat, 64]

def k0_chk6 (v200 : IVec S16 32) (v241 : IVec S16 32) : Prop :=
  (∀ a x, ((![v200, v241] : Fin 2 → IVec S16 32) a x).toNat < S32x1024.size a)
theorem k0_idx6_inb : ∀ (v200 : IVec S16 32) (v241 : IVec S16 32) (k0_hw6 : k0_chk6 v200 v241), ∀ a x, ((![v200, v241] : Fin 2 → IVec S16 32) a x).toNat < S32x1024.size a := fun v200 v241 k0_hw6 => k0_hw6
def k0_off10 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v243 : Index := Scalar.indexCast arg16
  let c80 : Index := 80#32
  ![v243.toNat, 80]

def k0_chk7 (v200 : IVec S16 32) (v248 : IVec S16 32) : Prop :=
  (∀ a x, ((![v200, v248] : Fin 2 → IVec S16 32) a x).toNat < S32x1024.size a)
theorem k0_idx7_inb : ∀ (v200 : IVec S16 32) (v248 : IVec S16 32) (k0_hw7 : k0_chk7 v200 v248), ∀ a x, ((![v200, v248] : Fin 2 → IVec S16 32) a x).toNat < S32x1024.size a := fun v200 v248 k0_hw7 => k0_hw7
def k0_off11 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v250 : Index := Scalar.indexCast arg16
  let c96 : Index := 96#32
  ![v250.toNat, 96]

def k0_chk8 (v200 : IVec S16 32) (v255 : IVec S16 32) : Prop :=
  (∀ a x, ((![v200, v255] : Fin 2 → IVec S16 32) a x).toNat < S32x1024.size a)
theorem k0_idx8_inb : ∀ (v200 : IVec S16 32) (v255 : IVec S16 32) (k0_hw8 : k0_chk8 v200 v255), ∀ a x, ((![v200, v255] : Fin 2 → IVec S16 32) a x).toNat < S32x1024.size a := fun v200 v255 k0_hw8 => k0_hw8
def k0_off12 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v257 : Index := Scalar.indexCast arg16
  let c112 : Index := 112#32
  ![v257.toNat, 112]

def k0_chk9 (v200 : IVec S16 32) (v262 : IVec S16 32) : Prop :=
  (∀ a x, ((![v200, v262] : Fin 2 → IVec S16 32) a x).toNat < S32x1024.size a)
theorem k0_idx9_inb : ∀ (v200 : IVec S16 32) (v262 : IVec S16 32) (k0_hw9 : k0_chk9 v200 v262), ∀ a x, ((![v200, v262] : Fin 2 → IVec S16 32) a x).toNat < S32x1024.size a := fun v200 v262 k0_hw9 => k0_hw9
def k0_off13 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v264 : Index := Scalar.indexCast arg16
  let c128 : Index := 128#32
  ![v264.toNat, 128]

def k0_chk10 (v200 : IVec S16 32) (v269 : IVec S16 32) : Prop :=
  (∀ a x, ((![v200, v269] : Fin 2 → IVec S16 32) a x).toNat < S32x1024.size a)
theorem k0_idx10_inb : ∀ (v200 : IVec S16 32) (v269 : IVec S16 32) (k0_hw10 : k0_chk10 v200 v269), ∀ a x, ((![v200, v269] : Fin 2 → IVec S16 32) a x).toNat < S32x1024.size a := fun v200 v269 k0_hw10 => k0_hw10
def k0_off14 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v271 : Index := Scalar.indexCast arg16
  let c144 : Index := 144#32
  ![v271.toNat, 144]

def k0_chk11 (v200 : IVec S16 32) (v276 : IVec S16 32) : Prop :=
  (∀ a x, ((![v200, v276] : Fin 2 → IVec S16 32) a x).toNat < S32x1024.size a)
theorem k0_idx11_inb : ∀ (v200 : IVec S16 32) (v276 : IVec S16 32) (k0_hw11 : k0_chk11 v200 v276), ∀ a x, ((![v200, v276] : Fin 2 → IVec S16 32) a x).toNat < S32x1024.size a := fun v200 v276 k0_hw11 => k0_hw11
def k0_off15 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v278 : Index := Scalar.indexCast arg16
  let c160 : Index := 160#32
  ![v278.toNat, 160]

def k0_chk12 (v200 : IVec S16 32) (v283 : IVec S16 32) : Prop :=
  (∀ a x, ((![v200, v283] : Fin 2 → IVec S16 32) a x).toNat < S32x1024.size a)
theorem k0_idx12_inb : ∀ (v200 : IVec S16 32) (v283 : IVec S16 32) (k0_hw12 : k0_chk12 v200 v283), ∀ a x, ((![v200, v283] : Fin 2 → IVec S16 32) a x).toNat < S32x1024.size a := fun v200 v283 k0_hw12 => k0_hw12
def k0_off16 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v285 : Index := Scalar.indexCast arg16
  let c176 : Index := 176#32
  ![v285.toNat, 176]

def k0_chk13 (v200 : IVec S16 32) (v290 : IVec S16 32) : Prop :=
  (∀ a x, ((![v200, v290] : Fin 2 → IVec S16 32) a x).toNat < S32x1024.size a)
theorem k0_idx13_inb : ∀ (v200 : IVec S16 32) (v290 : IVec S16 32) (k0_hw13 : k0_chk13 v200 v290), ∀ a x, ((![v200, v290] : Fin 2 → IVec S16 32) a x).toNat < S32x1024.size a := fun v200 v290 k0_hw13 => k0_hw13
def k0_off17 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v292 : Index := Scalar.indexCast arg16
  let c192 : Index := 192#32
  ![v292.toNat, 192]

def k0_chk14 (v200 : IVec S16 32) (v297 : IVec S16 32) : Prop :=
  (∀ a x, ((![v200, v297] : Fin 2 → IVec S16 32) a x).toNat < S32x1024.size a)
theorem k0_idx14_inb : ∀ (v200 : IVec S16 32) (v297 : IVec S16 32) (k0_hw14 : k0_chk14 v200 v297), ∀ a x, ((![v200, v297] : Fin 2 → IVec S16 32) a x).toNat < S32x1024.size a := fun v200 v297 k0_hw14 => k0_hw14
def k0_off18 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v299 : Index := Scalar.indexCast arg16
  let c208 : Index := 208#32
  ![v299.toNat, 208]

def k0_chk15 (v200 : IVec S16 32) (v304 : IVec S16 32) : Prop :=
  (∀ a x, ((![v200, v304] : Fin 2 → IVec S16 32) a x).toNat < S32x1024.size a)
theorem k0_idx15_inb : ∀ (v200 : IVec S16 32) (v304 : IVec S16 32) (k0_hw15 : k0_chk15 v200 v304), ∀ a x, ((![v200, v304] : Fin 2 → IVec S16 32) a x).toNat < S32x1024.size a := fun v200 v304 k0_hw15 => k0_hw15
def k0_off19 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v306 : Index := Scalar.indexCast arg16
  let c224 : Index := 224#32
  ![v306.toNat, 224]

def k0_chk16 (v200 : IVec S16 32) (v311 : IVec S16 32) : Prop :=
  (∀ a x, ((![v200, v311] : Fin 2 → IVec S16 32) a x).toNat < S32x1024.size a)
theorem k0_idx16_inb : ∀ (v200 : IVec S16 32) (v311 : IVec S16 32) (k0_hw16 : k0_chk16 v200 v311), ∀ a x, ((![v200, v311] : Fin 2 → IVec S16 32) a x).toNat < S32x1024.size a := fun v200 v311 k0_hw16 => k0_hw16
def k0_off20 (k0_t1 : Fin k0_t1_loop.trips) : Fin 2 → Nat :=
  let c0_i32_46 : BitVec 32 := 0#32
  let c1_i32_48 : BitVec 32 := 1#32
  let arg16 : BitVec 32 := Scf.iv c0_i32_46 c1_i32_48 k0_t1
  let v313 : Index := Scalar.indexCast arg16
  let c240 : Index := 240#32
  ![v313.toNat, 240]

def k0_chk17 (v202 : IVec S16 32) (v321 : IVec S16 32) : Prop :=
  (∀ a x, ((![v202, v321] : Fin 2 → IVec S16 32) a x).toNat < S32x1024.size a)
theorem k0_idx17_inb : ∀ (v202 : IVec S16 32) (v321 : IVec S16 32) (k0_hw17 : k0_chk17 v202 v321), ∀ a x, ((![v202, v321] : Fin 2 → IVec S16 32) a x).toNat < S32x1024.size a := fun v202 v321 k0_hw17 => k0_hw17

def k0_chk18 (v198 : IVec S16 32) (v326 : IVec S16 32) : Prop :=
  (∀ a x, ((![v198, v326] : Fin 2 → IVec S16 32) a x).toNat < S16x256.size a)
theorem k0_idx18_inb : ∀ (v198 : IVec S16 32) (v326 : IVec S16 32) (k0_hw18 : k0_chk18 v198 v326), ∀ a x, ((![v198, v326] : Fin 2 → IVec S16 32) a x).toNat < S16x256.size a := fun v198 v326 k0_hw18 => k0_hw18

def k0_chk19 (v200 : IVec S16 32) (v330 : IVec S16 32) : Prop :=
  (∀ a x, ((![v200, v330] : Fin 2 → IVec S16 32) a x).toNat < S32x128.size a)
theorem k0_idx19_inb : ∀ (v200 : IVec S16 32) (v330 : IVec S16 32) (k0_hw19 : k0_chk19 v200 v330), ∀ a x, ((![v200, v330] : Fin 2 → IVec S16 32) a x).toNat < S32x128.size a := fun v200 v330 k0_hw19 => k0_hw19

def k0_chk20 (v202 : IVec S16 32) (v337 : IVec S16 32) : Prop :=
  (∀ a x, ((![v202, v337] : Fin 2 → IVec S16 32) a x).toNat < S32x128.size a)
theorem k0_idx20_inb : ∀ (v202 : IVec S16 32) (v337 : IVec S16 32) (k0_hw20 : k0_chk20 v202 v337), ∀ a x, ((![v202, v337] : Fin 2 → IVec S16 32) a x).toNat < S32x128.size a := fun v202 v337 k0_hw20 => k0_hw20

def k0_chk21 (v198 : IVec S16 32) (v345 : IVec S16 32) : Prop :=
  (∀ a x, ((![v198, v345] : Fin 2 → IVec S16 32) a x).toNat < S16x256.size a)
theorem k0_idx21_inb : ∀ (v198 : IVec S16 32) (v345 : IVec S16 32) (k0_hw21 : k0_chk21 v198 v345), ∀ a x, ((![v198, v345] : Fin 2 → IVec S16 32) a x).toNat < S16x256.size a := fun v198 v345 k0_hw21 => k0_hw21
def k0_off21 (i : grid0.Coords) (c0_i32_24 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v67 : BitVec 32 := Scalar.addi v2 c0_i32_24
  let c4_i32_35 : BitVec 32 := 4#32
  let v76 : BitVec 32 := Scalar.shrsi v67 c4_i32_35
  let c16_i32 : BitVec 32 := 16#32
  let c15_i32_36 : BitVec 32 := 15#32
  let v77 : BitVec 32 := Scalar.andi v67 c15_i32_36
  let v78 : BitVec 32 := Scalar.muli c16_i32 v77
  let c0_i32_50 : BitVec 32 := 0#32
  ![v76.toNat, v78.toNat, 0]
def k0_off22 (i : grid0.Coords) (c0_i32_24 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v67 : BitVec 32 := Scalar.addi v2 c0_i32_24
  let c2_i32_52 : BitVec 32 := 2#32
  let v96 : BitVec 32 := Scalar.addi v67 c2_i32_52
  let c4_i32_53 : BitVec 32 := 4#32
  let v97 : BitVec 32 := Scalar.shrsi v96 c4_i32_53
  let c64_i32_55 : BitVec 32 := 64#32
  let c15_i32_54 : BitVec 32 := 15#32
  let v98 : BitVec 32 := Scalar.andi v96 c15_i32_54
  let v99 : BitVec 32 := Scalar.muli c64_i32_55 v98
  let c0_i32_56 : BitVec 32 := 0#32
  ![v97.toNat, v99.toNat, 0]
def k0_off23 (i : grid0.Coords) (c0_i32_24 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v67 : BitVec 32 := Scalar.addi v2 c0_i32_24
  let c2_i32_52 : BitVec 32 := 2#32
  let v96 : BitVec 32 := Scalar.addi v67 c2_i32_52
  let c4_i32_53 : BitVec 32 := 4#32
  let v97 : BitVec 32 := Scalar.shrsi v96 c4_i32_53
  let c64_i32_55 : BitVec 32 := 64#32
  let c15_i32_54 : BitVec 32 := 15#32
  let v98 : BitVec 32 := Scalar.andi v96 c15_i32_54
  let v99 : BitVec 32 := Scalar.muli c64_i32_55 v98
  let c32_i32_58 : BitVec 32 := 32#32
  let v104 : BitVec 32 := Scalar.addi v99 c32_i32_58
  let c32_i32_59 : BitVec 32 := 32#32
  let v105 : BitVec 32 := Scalar.addi v99 c32_i32_59
  let c0_i32_61 : BitVec 32 := 0#32
  let v107 : BitVec 1 := Scalar.cmpi .sgt v105 c0_i32_61
  let v108 : BitVec 32 := Scalar.extui v107
  let c0_i32_62 : BitVec 32 := 0#32
  let v109 : BitVec 1 := Scalar.cmpi .slt v105 c0_i32_62
  let v110 : BitVec 32 := Scalar.extui v109
  let v111 : BitVec 32 := Scalar.subi v108 v110
  let c128_i32_60 : BitVec 32 := 128#32
  let c0_i32_63 : BitVec 32 := 0#32
  let v112 : BitVec 1 := Scalar.cmpi .sgt c128_i32_60 c0_i32_63
  let v113 : BitVec 32 := Scalar.extui v112
  let c0_i32_64 : BitVec 32 := 0#32
  let v114 : BitVec 1 := Scalar.cmpi .slt c128_i32_60 c0_i32_64
  let v115 : BitVec 32 := Scalar.extui v114
  let v116 : BitVec 32 := Scalar.subi v113 v115
  let v117 : BitVec 1 := Scalar.cmpi .ne v111 v116
  let v118 : BitVec 32 := Scalar.remsi v105 c128_i32_60
  let c0_i32_65 : BitVec 32 := 0#32
  let v119 : BitVec 1 := Scalar.cmpi .ne v118 c0_i32_65
  let v120 : BitVec 1 := Scalar.andi v117 v119
  let v106 : BitVec 32 := Scalar.divsi v105 c128_i32_60
  let c1_i32_66 : BitVec 32 := 1#32
  let v121 : BitVec 32 := Scalar.subi v106 c1_i32_66
  let v122 : BitVec 32 := Scalar.select v120 v121 v106
  let c128_i32_67 : BitVec 32 := 128#32
  let v123 : BitVec 32 := Scalar.muli v122 c128_i32_67
  ![v97.toNat, v104.toNat, v123.toNat]
@[reducible] def k0_t2_loop : Scf.Loop 32 :=
  let c0_i32_91 : BitVec 32 := 0#32
  let c16_i32_92 : BitVec 32 := 16#32
  let v152 : BitVec 32 := Scalar.addi c0_i32_91 c16_i32_92
  let c1_i32_93 : BitVec 32 := 1#32
  ⟨c0_i32_91, v152, c1_i32_93⟩

def k0_chk22 (v200 : IVec S16 32) (v206 : IVec S16 32) : Prop :=
  (∀ a x, ((![v200, v206] : Fin 2 → IVec S16 32) a x).toNat < S32x1024.size a)
theorem k0_idx22_inb : ∀ (v200 : IVec S16 32) (v206 : IVec S16 32) (k0_hw22 : k0_chk22 v200 v206), ∀ a x, ((![v200, v206] : Fin 2 → IVec S16 32) a x).toNat < S32x1024.size a := fun v200 v206 k0_hw22 => k0_hw22
def k0_off24 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v208 : Index := Scalar.indexCast arg16
  let c0 : Index := 0#32
  ![v208.toNat, 0]

def k0_chk23 (v200 : IVec S16 32) (v213 : IVec S16 32) : Prop :=
  (∀ a x, ((![v200, v213] : Fin 2 → IVec S16 32) a x).toNat < S32x1024.size a)
theorem k0_idx23_inb : ∀ (v200 : IVec S16 32) (v213 : IVec S16 32) (k0_hw23 : k0_chk23 v200 v213), ∀ a x, ((![v200, v213] : Fin 2 → IVec S16 32) a x).toNat < S32x1024.size a := fun v200 v213 k0_hw23 => k0_hw23
def k0_off25 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v215 : Index := Scalar.indexCast arg16
  let c16 : Index := 16#32
  ![v215.toNat, 16]

def k0_chk24 (v200 : IVec S16 32) (v220 : IVec S16 32) : Prop :=
  (∀ a x, ((![v200, v220] : Fin 2 → IVec S16 32) a x).toNat < S32x1024.size a)
theorem k0_idx24_inb : ∀ (v200 : IVec S16 32) (v220 : IVec S16 32) (k0_hw24 : k0_chk24 v200 v220), ∀ a x, ((![v200, v220] : Fin 2 → IVec S16 32) a x).toNat < S32x1024.size a := fun v200 v220 k0_hw24 => k0_hw24
def k0_off26 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v222 : Index := Scalar.indexCast arg16
  let c32 : Index := 32#32
  ![v222.toNat, 32]

def k0_chk25 (v200 : IVec S16 32) (v227 : IVec S16 32) : Prop :=
  (∀ a x, ((![v200, v227] : Fin 2 → IVec S16 32) a x).toNat < S32x1024.size a)
theorem k0_idx25_inb : ∀ (v200 : IVec S16 32) (v227 : IVec S16 32) (k0_hw25 : k0_chk25 v200 v227), ∀ a x, ((![v200, v227] : Fin 2 → IVec S16 32) a x).toNat < S32x1024.size a := fun v200 v227 k0_hw25 => k0_hw25
def k0_off27 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v229 : Index := Scalar.indexCast arg16
  let c48 : Index := 48#32
  ![v229.toNat, 48]

def k0_chk26 (v200 : IVec S16 32) (v234 : IVec S16 32) : Prop :=
  (∀ a x, ((![v200, v234] : Fin 2 → IVec S16 32) a x).toNat < S32x1024.size a)
theorem k0_idx26_inb : ∀ (v200 : IVec S16 32) (v234 : IVec S16 32) (k0_hw26 : k0_chk26 v200 v234), ∀ a x, ((![v200, v234] : Fin 2 → IVec S16 32) a x).toNat < S32x1024.size a := fun v200 v234 k0_hw26 => k0_hw26
def k0_off28 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v236 : Index := Scalar.indexCast arg16
  let c64 : Index := 64#32
  ![v236.toNat, 64]

def k0_chk27 (v200 : IVec S16 32) (v241 : IVec S16 32) : Prop :=
  (∀ a x, ((![v200, v241] : Fin 2 → IVec S16 32) a x).toNat < S32x1024.size a)
theorem k0_idx27_inb : ∀ (v200 : IVec S16 32) (v241 : IVec S16 32) (k0_hw27 : k0_chk27 v200 v241), ∀ a x, ((![v200, v241] : Fin 2 → IVec S16 32) a x).toNat < S32x1024.size a := fun v200 v241 k0_hw27 => k0_hw27
def k0_off29 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v243 : Index := Scalar.indexCast arg16
  let c80 : Index := 80#32
  ![v243.toNat, 80]

def k0_chk28 (v200 : IVec S16 32) (v248 : IVec S16 32) : Prop :=
  (∀ a x, ((![v200, v248] : Fin 2 → IVec S16 32) a x).toNat < S32x1024.size a)
theorem k0_idx28_inb : ∀ (v200 : IVec S16 32) (v248 : IVec S16 32) (k0_hw28 : k0_chk28 v200 v248), ∀ a x, ((![v200, v248] : Fin 2 → IVec S16 32) a x).toNat < S32x1024.size a := fun v200 v248 k0_hw28 => k0_hw28
def k0_off30 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v250 : Index := Scalar.indexCast arg16
  let c96 : Index := 96#32
  ![v250.toNat, 96]

def k0_chk29 (v200 : IVec S16 32) (v255 : IVec S16 32) : Prop :=
  (∀ a x, ((![v200, v255] : Fin 2 → IVec S16 32) a x).toNat < S32x1024.size a)
theorem k0_idx29_inb : ∀ (v200 : IVec S16 32) (v255 : IVec S16 32) (k0_hw29 : k0_chk29 v200 v255), ∀ a x, ((![v200, v255] : Fin 2 → IVec S16 32) a x).toNat < S32x1024.size a := fun v200 v255 k0_hw29 => k0_hw29
def k0_off31 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v257 : Index := Scalar.indexCast arg16
  let c112 : Index := 112#32
  ![v257.toNat, 112]

def k0_chk30 (v200 : IVec S16 32) (v262 : IVec S16 32) : Prop :=
  (∀ a x, ((![v200, v262] : Fin 2 → IVec S16 32) a x).toNat < S32x1024.size a)
theorem k0_idx30_inb : ∀ (v200 : IVec S16 32) (v262 : IVec S16 32) (k0_hw30 : k0_chk30 v200 v262), ∀ a x, ((![v200, v262] : Fin 2 → IVec S16 32) a x).toNat < S32x1024.size a := fun v200 v262 k0_hw30 => k0_hw30
def k0_off32 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v264 : Index := Scalar.indexCast arg16
  let c128 : Index := 128#32
  ![v264.toNat, 128]

def k0_chk31 (v200 : IVec S16 32) (v269 : IVec S16 32) : Prop :=
  (∀ a x, ((![v200, v269] : Fin 2 → IVec S16 32) a x).toNat < S32x1024.size a)
theorem k0_idx31_inb : ∀ (v200 : IVec S16 32) (v269 : IVec S16 32) (k0_hw31 : k0_chk31 v200 v269), ∀ a x, ((![v200, v269] : Fin 2 → IVec S16 32) a x).toNat < S32x1024.size a := fun v200 v269 k0_hw31 => k0_hw31
def k0_off33 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v271 : Index := Scalar.indexCast arg16
  let c144 : Index := 144#32
  ![v271.toNat, 144]

def k0_chk32 (v200 : IVec S16 32) (v276 : IVec S16 32) : Prop :=
  (∀ a x, ((![v200, v276] : Fin 2 → IVec S16 32) a x).toNat < S32x1024.size a)
theorem k0_idx32_inb : ∀ (v200 : IVec S16 32) (v276 : IVec S16 32) (k0_hw32 : k0_chk32 v200 v276), ∀ a x, ((![v200, v276] : Fin 2 → IVec S16 32) a x).toNat < S32x1024.size a := fun v200 v276 k0_hw32 => k0_hw32
def k0_off34 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v278 : Index := Scalar.indexCast arg16
  let c160 : Index := 160#32
  ![v278.toNat, 160]

def k0_chk33 (v200 : IVec S16 32) (v283 : IVec S16 32) : Prop :=
  (∀ a x, ((![v200, v283] : Fin 2 → IVec S16 32) a x).toNat < S32x1024.size a)
theorem k0_idx33_inb : ∀ (v200 : IVec S16 32) (v283 : IVec S16 32) (k0_hw33 : k0_chk33 v200 v283), ∀ a x, ((![v200, v283] : Fin 2 → IVec S16 32) a x).toNat < S32x1024.size a := fun v200 v283 k0_hw33 => k0_hw33
def k0_off35 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v285 : Index := Scalar.indexCast arg16
  let c176 : Index := 176#32
  ![v285.toNat, 176]

def k0_chk34 (v200 : IVec S16 32) (v290 : IVec S16 32) : Prop :=
  (∀ a x, ((![v200, v290] : Fin 2 → IVec S16 32) a x).toNat < S32x1024.size a)
theorem k0_idx34_inb : ∀ (v200 : IVec S16 32) (v290 : IVec S16 32) (k0_hw34 : k0_chk34 v200 v290), ∀ a x, ((![v200, v290] : Fin 2 → IVec S16 32) a x).toNat < S32x1024.size a := fun v200 v290 k0_hw34 => k0_hw34
def k0_off36 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v292 : Index := Scalar.indexCast arg16
  let c192 : Index := 192#32
  ![v292.toNat, 192]

def k0_chk35 (v200 : IVec S16 32) (v297 : IVec S16 32) : Prop :=
  (∀ a x, ((![v200, v297] : Fin 2 → IVec S16 32) a x).toNat < S32x1024.size a)
theorem k0_idx35_inb : ∀ (v200 : IVec S16 32) (v297 : IVec S16 32) (k0_hw35 : k0_chk35 v200 v297), ∀ a x, ((![v200, v297] : Fin 2 → IVec S16 32) a x).toNat < S32x1024.size a := fun v200 v297 k0_hw35 => k0_hw35
def k0_off37 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v299 : Index := Scalar.indexCast arg16
  let c208 : Index := 208#32
  ![v299.toNat, 208]

def k0_chk36 (v200 : IVec S16 32) (v304 : IVec S16 32) : Prop :=
  (∀ a x, ((![v200, v304] : Fin 2 → IVec S16 32) a x).toNat < S32x1024.size a)
theorem k0_idx36_inb : ∀ (v200 : IVec S16 32) (v304 : IVec S16 32) (k0_hw36 : k0_chk36 v200 v304), ∀ a x, ((![v200, v304] : Fin 2 → IVec S16 32) a x).toNat < S32x1024.size a := fun v200 v304 k0_hw36 => k0_hw36
def k0_off38 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v306 : Index := Scalar.indexCast arg16
  let c224 : Index := 224#32
  ![v306.toNat, 224]

def k0_chk37 (v200 : IVec S16 32) (v311 : IVec S16 32) : Prop :=
  (∀ a x, ((![v200, v311] : Fin 2 → IVec S16 32) a x).toNat < S32x1024.size a)
theorem k0_idx37_inb : ∀ (v200 : IVec S16 32) (v311 : IVec S16 32) (k0_hw37 : k0_chk37 v200 v311), ∀ a x, ((![v200, v311] : Fin 2 → IVec S16 32) a x).toNat < S32x1024.size a := fun v200 v311 k0_hw37 => k0_hw37
def k0_off39 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let v313 : Index := Scalar.indexCast arg16
  let c240 : Index := 240#32
  ![v313.toNat, 240]

def k0_chk38 (v202 : IVec S16 32) (v321 : IVec S16 32) : Prop :=
  (∀ a x, ((![v202, v321] : Fin 2 → IVec S16 32) a x).toNat < S32x1024.size a)
theorem k0_idx38_inb : ∀ (v202 : IVec S16 32) (v321 : IVec S16 32) (k0_hw38 : k0_chk38 v202 v321), ∀ a x, ((![v202, v321] : Fin 2 → IVec S16 32) a x).toNat < S32x1024.size a := fun v202 v321 k0_hw38 => k0_hw38

def k0_chk39 (v198 : IVec S16 32) (v326 : IVec S16 32) : Prop :=
  (∀ a x, ((![v198, v326] : Fin 2 → IVec S16 32) a x).toNat < S16x256.size a)
theorem k0_idx39_inb : ∀ (v198 : IVec S16 32) (v326 : IVec S16 32) (k0_hw39 : k0_chk39 v198 v326), ∀ a x, ((![v198, v326] : Fin 2 → IVec S16 32) a x).toNat < S16x256.size a := fun v198 v326 k0_hw39 => k0_hw39

def k0_chk40 (v200 : IVec S16 32) (v330 : IVec S16 32) : Prop :=
  (∀ a x, ((![v200, v330] : Fin 2 → IVec S16 32) a x).toNat < S32x128.size a)
theorem k0_idx40_inb : ∀ (v200 : IVec S16 32) (v330 : IVec S16 32) (k0_hw40 : k0_chk40 v200 v330), ∀ a x, ((![v200, v330] : Fin 2 → IVec S16 32) a x).toNat < S32x128.size a := fun v200 v330 k0_hw40 => k0_hw40

def k0_chk41 (v202 : IVec S16 32) (v337 : IVec S16 32) : Prop :=
  (∀ a x, ((![v202, v337] : Fin 2 → IVec S16 32) a x).toNat < S32x128.size a)
theorem k0_idx41_inb : ∀ (v202 : IVec S16 32) (v337 : IVec S16 32) (k0_hw41 : k0_chk41 v202 v337), ∀ a x, ((![v202, v337] : Fin 2 → IVec S16 32) a x).toNat < S32x128.size a := fun v202 v337 k0_hw41 => k0_hw41

def k0_chk42 (v198 : IVec S16 32) (v345 : IVec S16 32) : Prop :=
  (∀ a x, ((![v198, v345] : Fin 2 → IVec S16 32) a x).toNat < S16x256.size a)
theorem k0_idx42_inb : ∀ (v198 : IVec S16 32) (v345 : IVec S16 32) (k0_hw42 : k0_chk42 v198 v345), ∀ a x, ((![v198, v345] : Fin 2 → IVec S16 32) a x).toNat < S16x256.size a := fun v198 v345 k0_hw42 => k0_hw42
@[reducible] def k0_t3_loop : Scf.Loop 32 :=
  let c1_i32_114 : BitVec 32 := 1#32
  let c3_i32 : BitVec 32 := 3#32
  let v189 : BitVec 32 := Scalar.addi c1_i32_114 c3_i32
  let c1_i32_115 : BitVec 32 := 1#32
  ⟨c1_i32_114, v189, c1_i32_115⟩
@[reducible] def k0_t4_loop : Scf.Loop 32 :=
  let c0_i32_156 : BitVec 32 := 0#32
  let c16_i32_157 : BitVec 32 := 16#32
  let v228 : BitVec 32 := Scalar.addi c0_i32_156 c16_i32_157
  let c1_i32_158 : BitVec 32 := 1#32
  ⟨c0_i32_156, v228, c1_i32_158⟩

def k0_chk43 (v276 : IVec S16 32) (v282 : IVec S16 32) : Prop :=
  (∀ a x, ((![v276, v282] : Fin 2 → IVec S16 32) a x).toNat < S32x1024.size a)
theorem k0_idx43_inb : ∀ (v276 : IVec S16 32) (v282 : IVec S16 32) (k0_hw43 : k0_chk43 v276 v282), ∀ a x, ((![v276, v282] : Fin 2 → IVec S16 32) a x).toNat < S32x1024.size a := fun v276 v282 k0_hw43 => k0_hw43
def k0_off40 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v284 : Index := Scalar.indexCast arg17
  let c0 : Index := 0#32
  ![v284.toNat, 0]

def k0_chk44 (v276 : IVec S16 32) (v289 : IVec S16 32) : Prop :=
  (∀ a x, ((![v276, v289] : Fin 2 → IVec S16 32) a x).toNat < S32x1024.size a)
theorem k0_idx44_inb : ∀ (v276 : IVec S16 32) (v289 : IVec S16 32) (k0_hw44 : k0_chk44 v276 v289), ∀ a x, ((![v276, v289] : Fin 2 → IVec S16 32) a x).toNat < S32x1024.size a := fun v276 v289 k0_hw44 => k0_hw44
def k0_off41 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v291 : Index := Scalar.indexCast arg17
  let c16 : Index := 16#32
  ![v291.toNat, 16]

def k0_chk45 (v276 : IVec S16 32) (v296 : IVec S16 32) : Prop :=
  (∀ a x, ((![v276, v296] : Fin 2 → IVec S16 32) a x).toNat < S32x1024.size a)
theorem k0_idx45_inb : ∀ (v276 : IVec S16 32) (v296 : IVec S16 32) (k0_hw45 : k0_chk45 v276 v296), ∀ a x, ((![v276, v296] : Fin 2 → IVec S16 32) a x).toNat < S32x1024.size a := fun v276 v296 k0_hw45 => k0_hw45
def k0_off42 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v298 : Index := Scalar.indexCast arg17
  let c32 : Index := 32#32
  ![v298.toNat, 32]

def k0_chk46 (v276 : IVec S16 32) (v303 : IVec S16 32) : Prop :=
  (∀ a x, ((![v276, v303] : Fin 2 → IVec S16 32) a x).toNat < S32x1024.size a)
theorem k0_idx46_inb : ∀ (v276 : IVec S16 32) (v303 : IVec S16 32) (k0_hw46 : k0_chk46 v276 v303), ∀ a x, ((![v276, v303] : Fin 2 → IVec S16 32) a x).toNat < S32x1024.size a := fun v276 v303 k0_hw46 => k0_hw46
def k0_off43 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v305 : Index := Scalar.indexCast arg17
  let c48 : Index := 48#32
  ![v305.toNat, 48]

def k0_chk47 (v276 : IVec S16 32) (v310 : IVec S16 32) : Prop :=
  (∀ a x, ((![v276, v310] : Fin 2 → IVec S16 32) a x).toNat < S32x1024.size a)
theorem k0_idx47_inb : ∀ (v276 : IVec S16 32) (v310 : IVec S16 32) (k0_hw47 : k0_chk47 v276 v310), ∀ a x, ((![v276, v310] : Fin 2 → IVec S16 32) a x).toNat < S32x1024.size a := fun v276 v310 k0_hw47 => k0_hw47
def k0_off44 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v312 : Index := Scalar.indexCast arg17
  let c64 : Index := 64#32
  ![v312.toNat, 64]

def k0_chk48 (v276 : IVec S16 32) (v317 : IVec S16 32) : Prop :=
  (∀ a x, ((![v276, v317] : Fin 2 → IVec S16 32) a x).toNat < S32x1024.size a)
theorem k0_idx48_inb : ∀ (v276 : IVec S16 32) (v317 : IVec S16 32) (k0_hw48 : k0_chk48 v276 v317), ∀ a x, ((![v276, v317] : Fin 2 → IVec S16 32) a x).toNat < S32x1024.size a := fun v276 v317 k0_hw48 => k0_hw48
def k0_off45 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v319 : Index := Scalar.indexCast arg17
  let c80 : Index := 80#32
  ![v319.toNat, 80]

def k0_chk49 (v276 : IVec S16 32) (v324 : IVec S16 32) : Prop :=
  (∀ a x, ((![v276, v324] : Fin 2 → IVec S16 32) a x).toNat < S32x1024.size a)
theorem k0_idx49_inb : ∀ (v276 : IVec S16 32) (v324 : IVec S16 32) (k0_hw49 : k0_chk49 v276 v324), ∀ a x, ((![v276, v324] : Fin 2 → IVec S16 32) a x).toNat < S32x1024.size a := fun v276 v324 k0_hw49 => k0_hw49
def k0_off46 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v326 : Index := Scalar.indexCast arg17
  let c96 : Index := 96#32
  ![v326.toNat, 96]

def k0_chk50 (v276 : IVec S16 32) (v331 : IVec S16 32) : Prop :=
  (∀ a x, ((![v276, v331] : Fin 2 → IVec S16 32) a x).toNat < S32x1024.size a)
theorem k0_idx50_inb : ∀ (v276 : IVec S16 32) (v331 : IVec S16 32) (k0_hw50 : k0_chk50 v276 v331), ∀ a x, ((![v276, v331] : Fin 2 → IVec S16 32) a x).toNat < S32x1024.size a := fun v276 v331 k0_hw50 => k0_hw50
def k0_off47 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v333 : Index := Scalar.indexCast arg17
  let c112 : Index := 112#32
  ![v333.toNat, 112]

def k0_chk51 (v276 : IVec S16 32) (v338 : IVec S16 32) : Prop :=
  (∀ a x, ((![v276, v338] : Fin 2 → IVec S16 32) a x).toNat < S32x1024.size a)
theorem k0_idx51_inb : ∀ (v276 : IVec S16 32) (v338 : IVec S16 32) (k0_hw51 : k0_chk51 v276 v338), ∀ a x, ((![v276, v338] : Fin 2 → IVec S16 32) a x).toNat < S32x1024.size a := fun v276 v338 k0_hw51 => k0_hw51
def k0_off48 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v340 : Index := Scalar.indexCast arg17
  let c128 : Index := 128#32
  ![v340.toNat, 128]

def k0_chk52 (v276 : IVec S16 32) (v345 : IVec S16 32) : Prop :=
  (∀ a x, ((![v276, v345] : Fin 2 → IVec S16 32) a x).toNat < S32x1024.size a)
theorem k0_idx52_inb : ∀ (v276 : IVec S16 32) (v345 : IVec S16 32) (k0_hw52 : k0_chk52 v276 v345), ∀ a x, ((![v276, v345] : Fin 2 → IVec S16 32) a x).toNat < S32x1024.size a := fun v276 v345 k0_hw52 => k0_hw52
def k0_off49 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v347 : Index := Scalar.indexCast arg17
  let c144 : Index := 144#32
  ![v347.toNat, 144]

def k0_chk53 (v276 : IVec S16 32) (v352 : IVec S16 32) : Prop :=
  (∀ a x, ((![v276, v352] : Fin 2 → IVec S16 32) a x).toNat < S32x1024.size a)
theorem k0_idx53_inb : ∀ (v276 : IVec S16 32) (v352 : IVec S16 32) (k0_hw53 : k0_chk53 v276 v352), ∀ a x, ((![v276, v352] : Fin 2 → IVec S16 32) a x).toNat < S32x1024.size a := fun v276 v352 k0_hw53 => k0_hw53
def k0_off50 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v354 : Index := Scalar.indexCast arg17
  let c160 : Index := 160#32
  ![v354.toNat, 160]

def k0_chk54 (v276 : IVec S16 32) (v359 : IVec S16 32) : Prop :=
  (∀ a x, ((![v276, v359] : Fin 2 → IVec S16 32) a x).toNat < S32x1024.size a)
theorem k0_idx54_inb : ∀ (v276 : IVec S16 32) (v359 : IVec S16 32) (k0_hw54 : k0_chk54 v276 v359), ∀ a x, ((![v276, v359] : Fin 2 → IVec S16 32) a x).toNat < S32x1024.size a := fun v276 v359 k0_hw54 => k0_hw54
def k0_off51 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v361 : Index := Scalar.indexCast arg17
  let c176 : Index := 176#32
  ![v361.toNat, 176]

def k0_chk55 (v276 : IVec S16 32) (v366 : IVec S16 32) : Prop :=
  (∀ a x, ((![v276, v366] : Fin 2 → IVec S16 32) a x).toNat < S32x1024.size a)
theorem k0_idx55_inb : ∀ (v276 : IVec S16 32) (v366 : IVec S16 32) (k0_hw55 : k0_chk55 v276 v366), ∀ a x, ((![v276, v366] : Fin 2 → IVec S16 32) a x).toNat < S32x1024.size a := fun v276 v366 k0_hw55 => k0_hw55
def k0_off52 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v368 : Index := Scalar.indexCast arg17
  let c192 : Index := 192#32
  ![v368.toNat, 192]

def k0_chk56 (v276 : IVec S16 32) (v373 : IVec S16 32) : Prop :=
  (∀ a x, ((![v276, v373] : Fin 2 → IVec S16 32) a x).toNat < S32x1024.size a)
theorem k0_idx56_inb : ∀ (v276 : IVec S16 32) (v373 : IVec S16 32) (k0_hw56 : k0_chk56 v276 v373), ∀ a x, ((![v276, v373] : Fin 2 → IVec S16 32) a x).toNat < S32x1024.size a := fun v276 v373 k0_hw56 => k0_hw56
def k0_off53 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v375 : Index := Scalar.indexCast arg17
  let c208 : Index := 208#32
  ![v375.toNat, 208]

def k0_chk57 (v276 : IVec S16 32) (v380 : IVec S16 32) : Prop :=
  (∀ a x, ((![v276, v380] : Fin 2 → IVec S16 32) a x).toNat < S32x1024.size a)
theorem k0_idx57_inb : ∀ (v276 : IVec S16 32) (v380 : IVec S16 32) (k0_hw57 : k0_chk57 v276 v380), ∀ a x, ((![v276, v380] : Fin 2 → IVec S16 32) a x).toNat < S32x1024.size a := fun v276 v380 k0_hw57 => k0_hw57
def k0_off54 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v382 : Index := Scalar.indexCast arg17
  let c224 : Index := 224#32
  ![v382.toNat, 224]

def k0_chk58 (v276 : IVec S16 32) (v387 : IVec S16 32) : Prop :=
  (∀ a x, ((![v276, v387] : Fin 2 → IVec S16 32) a x).toNat < S32x1024.size a)
theorem k0_idx58_inb : ∀ (v276 : IVec S16 32) (v387 : IVec S16 32) (k0_hw58 : k0_chk58 v276 v387), ∀ a x, ((![v276, v387] : Fin 2 → IVec S16 32) a x).toNat < S32x1024.size a := fun v276 v387 k0_hw58 => k0_hw58
def k0_off55 (k0_t4 : Fin k0_t4_loop.trips) : Fin 2 → Nat :=
  let c0_i32_156 : BitVec 32 := 0#32
  let c1_i32_158 : BitVec 32 := 1#32
  let arg17 : BitVec 32 := Scf.iv c0_i32_156 c1_i32_158 k0_t4
  let v389 : Index := Scalar.indexCast arg17
  let c240 : Index := 240#32
  ![v389.toNat, 240]

def k0_chk59 (v278 : IVec S16 32) (v397 : IVec S16 32) : Prop :=
  (∀ a x, ((![v278, v397] : Fin 2 → IVec S16 32) a x).toNat < S32x1024.size a)
theorem k0_idx59_inb : ∀ (v278 : IVec S16 32) (v397 : IVec S16 32) (k0_hw59 : k0_chk59 v278 v397), ∀ a x, ((![v278, v397] : Fin 2 → IVec S16 32) a x).toNat < S32x1024.size a := fun v278 v397 k0_hw59 => k0_hw59

def k0_chk60 (v274 : IVec S16 32) (v402 : IVec S16 32) : Prop :=
  (∀ a x, ((![v274, v402] : Fin 2 → IVec S16 32) a x).toNat < S16x256.size a)
theorem k0_idx60_inb : ∀ (v274 : IVec S16 32) (v402 : IVec S16 32) (k0_hw60 : k0_chk60 v274 v402), ∀ a x, ((![v274, v402] : Fin 2 → IVec S16 32) a x).toNat < S16x256.size a := fun v274 v402 k0_hw60 => k0_hw60

def k0_chk61 (v276 : IVec S16 32) (v406 : IVec S16 32) : Prop :=
  (∀ a x, ((![v276, v406] : Fin 2 → IVec S16 32) a x).toNat < S32x128.size a)
theorem k0_idx61_inb : ∀ (v276 : IVec S16 32) (v406 : IVec S16 32) (k0_hw61 : k0_chk61 v276 v406), ∀ a x, ((![v276, v406] : Fin 2 → IVec S16 32) a x).toNat < S32x128.size a := fun v276 v406 k0_hw61 => k0_hw61

def k0_chk62 (v278 : IVec S16 32) (v413 : IVec S16 32) : Prop :=
  (∀ a x, ((![v278, v413] : Fin 2 → IVec S16 32) a x).toNat < S32x128.size a)
theorem k0_idx62_inb : ∀ (v278 : IVec S16 32) (v413 : IVec S16 32) (k0_hw62 : k0_chk62 v278 v413), ∀ a x, ((![v278, v413] : Fin 2 → IVec S16 32) a x).toNat < S32x128.size a := fun v278 v413 k0_hw62 => k0_hw62

def k0_chk63 (v274 : IVec S16 32) (v421 : IVec S16 32) : Prop :=
  (∀ a x, ((![v274, v421] : Fin 2 → IVec S16 32) a x).toNat < S16x256.size a)
theorem k0_idx63_inb : ∀ (v274 : IVec S16 32) (v421 : IVec S16 32) (k0_hw63 : k0_chk63 v274 v421), ∀ a x, ((![v274, v421] : Fin 2 → IVec S16 32) a x).toNat < S16x256.size a := fun v274 v421 k0_hw63 => k0_hw63
def k0_off56 (i : grid0.Coords) (k0_t3 : Fin k0_t3_loop.trips) (c0_i32_128 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2_i32_127 : BitVec 32 := 2#32
  let c1_i32_114 : BitVec 32 := 1#32
  let c1_i32_115 : BitVec 32 := 1#32
  let arg16 : BitVec 32 := Scf.iv c1_i32_114 c1_i32_115 k0_t3
  let v198 : BitVec 32 := Scalar.muli c2_i32_127 arg16
  let v199 : BitVec 32 := Scalar.addi v2 v198
  let v200 : BitVec 32 := Scalar.addi v199 c0_i32_128
  let c4_i32_144 : BitVec 32 := 4#32
  let v213 : BitVec 32 := Scalar.shrsi v200 c4_i32_144
  let c16_i32_146 : BitVec 32 := 16#32
  let c15_i32_145 : BitVec 32 := 15#32
  let v214 : BitVec 32 := Scalar.andi v200 c15_i32_145
  let v215 : BitVec 32 := Scalar.muli c16_i32_146 v214
  let c0_i32_160 : BitVec 32 := 0#32
  ![v213.toNat, v215.toNat, 0]
def k0_cond1 (k0_t3 : Fin k0_t3_loop.trips) : BitVec 1 :=
  let c1_i32_114 : BitVec 32 := 1#32
  let c1_i32_115 : BitVec 32 := 1#32
  let arg16 : BitVec 32 := Scf.iv c1_i32_114 c1_i32_115 k0_t3
  let c3_i32_162 : BitVec 32 := 3#32
  let v233 : BitVec 1 := Scalar.cmpi .slt arg16 c3_i32_162
  let v234 : BitVec 32 := Scalar.extui v233
  let c0_i32_163 : BitVec 32 := 0#32
  let v235 : BitVec 1 := Scalar.cmpi .ne v234 c0_i32_163
  v235

def k0_off57 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2_i32_127 : BitVec 32 := 2#32
  let c1_i32_114 : BitVec 32 := 1#32
  let c1_i32_115 : BitVec 32 := 1#32
  let arg16 : BitVec 32 := Scf.iv c1_i32_114 c1_i32_115 k0_t3
  let v198 : BitVec 32 := Scalar.muli c2_i32_127 arg16
  let v199 : BitVec 32 := Scalar.addi v2 v198
  let c0_i32_128 : BitVec 32 := 0#32
  let v200 : BitVec 32 := Scalar.addi v199 c0_i32_128
  let c2_i32_201 : BitVec 32 := 2#32
  let v274 : BitVec 32 := Scalar.addi v200 c2_i32_201
  let c4_i32_202 : BitVec 32 := 4#32
  let v275 : BitVec 32 := Scalar.shrsi v274 c4_i32_202
  let c64_i32_204 : BitVec 32 := 64#32
  let c15_i32_203 : BitVec 32 := 15#32
  let v276 : BitVec 32 := Scalar.andi v274 c15_i32_203
  let v277 : BitVec 32 := Scalar.muli c64_i32_204 v276
  let c0_i32_205 : BitVec 32 := 0#32
  ![v275.toNat, v277.toNat, 0]
def k0_off58 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2_i32_127 : BitVec 32 := 2#32
  let c1_i32_114 : BitVec 32 := 1#32
  let c1_i32_115 : BitVec 32 := 1#32
  let arg16 : BitVec 32 := Scf.iv c1_i32_114 c1_i32_115 k0_t3
  let v198 : BitVec 32 := Scalar.muli c2_i32_127 arg16
  let v199 : BitVec 32 := Scalar.addi v2 v198
  let c0_i32_128 : BitVec 32 := 0#32
  let v200 : BitVec 32 := Scalar.addi v199 c0_i32_128
  let c2_i32_201 : BitVec 32 := 2#32
  let v274 : BitVec 32 := Scalar.addi v200 c2_i32_201
  let c4_i32_202 : BitVec 32 := 4#32
  let v275 : BitVec 32 := Scalar.shrsi v274 c4_i32_202
  let c64_i32_204 : BitVec 32 := 64#32
  let c15_i32_203 : BitVec 32 := 15#32
  let v276 : BitVec 32 := Scalar.andi v274 c15_i32_203
  let v277 : BitVec 32 := Scalar.muli c64_i32_204 v276
  let c32_i32_207 : BitVec 32 := 32#32
  let v282 : BitVec 32 := Scalar.addi v277 c32_i32_207
  let c32_i32_208 : BitVec 32 := 32#32
  let v283 : BitVec 32 := Scalar.addi v277 c32_i32_208
  let c0_i32_210 : BitVec 32 := 0#32
  let v285 : BitVec 1 := Scalar.cmpi .sgt v283 c0_i32_210
  let v286 : BitVec 32 := Scalar.extui v285
  let c0_i32_211 : BitVec 32 := 0#32
  let v287 : BitVec 1 := Scalar.cmpi .slt v283 c0_i32_211
  let v288 : BitVec 32 := Scalar.extui v287
  let v289 : BitVec 32 := Scalar.subi v286 v288
  let c128_i32_209 : BitVec 32 := 128#32
  let c0_i32_212 : BitVec 32 := 0#32
  let v290 : BitVec 1 := Scalar.cmpi .sgt c128_i32_209 c0_i32_212
  let v291 : BitVec 32 := Scalar.extui v290
  let c0_i32_213 : BitVec 32 := 0#32
  let v292 : BitVec 1 := Scalar.cmpi .slt c128_i32_209 c0_i32_213
  let v293 : BitVec 32 := Scalar.extui v292
  let v294 : BitVec 32 := Scalar.subi v291 v293
  let v295 : BitVec 1 := Scalar.cmpi .ne v289 v294
  let v296 : BitVec 32 := Scalar.remsi v283 c128_i32_209
  let c0_i32_214 : BitVec 32 := 0#32
  let v297 : BitVec 1 := Scalar.cmpi .ne v296 c0_i32_214
  let v298 : BitVec 1 := Scalar.andi v295 v297
  let v284 : BitVec 32 := Scalar.divsi v283 c128_i32_209
  let c1_i32_215 : BitVec 32 := 1#32
  let v299 : BitVec 32 := Scalar.subi v284 c1_i32_215
  let v300 : BitVec 32 := Scalar.select v298 v299 v284
  let c128_i32_216 : BitVec 32 := 128#32
  let v301 : BitVec 32 := Scalar.muli v300 c128_i32_216
  ![v275.toNat, v282.toNat, v301.toNat]
@[reducible] def k0_t5_loop : Scf.Loop 32 :=
  let c0_i32_193 : BitVec 32 := 0#32
  let c16_i32_194 : BitVec 32 := 16#32
  let v266 : BitVec 32 := Scalar.addi c0_i32_193 c16_i32_194
  let c1_i32_195 : BitVec 32 := 1#32
  ⟨c0_i32_193, v266, c1_i32_195⟩

def k0_chk64 (v276 : IVec S16 32) (v282 : IVec S16 32) : Prop :=
  (∀ a x, ((![v276, v282] : Fin 2 → IVec S16 32) a x).toNat < S32x1024.size a)
theorem k0_idx64_inb : ∀ (v276 : IVec S16 32) (v282 : IVec S16 32) (k0_hw64 : k0_chk64 v276 v282), ∀ a x, ((![v276, v282] : Fin 2 → IVec S16 32) a x).toNat < S32x1024.size a := fun v276 v282 k0_hw64 => k0_hw64
def k0_off59 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v284 : Index := Scalar.indexCast arg17
  let c0 : Index := 0#32
  ![v284.toNat, 0]

def k0_chk65 (v276 : IVec S16 32) (v289 : IVec S16 32) : Prop :=
  (∀ a x, ((![v276, v289] : Fin 2 → IVec S16 32) a x).toNat < S32x1024.size a)
theorem k0_idx65_inb : ∀ (v276 : IVec S16 32) (v289 : IVec S16 32) (k0_hw65 : k0_chk65 v276 v289), ∀ a x, ((![v276, v289] : Fin 2 → IVec S16 32) a x).toNat < S32x1024.size a := fun v276 v289 k0_hw65 => k0_hw65
def k0_off60 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v291 : Index := Scalar.indexCast arg17
  let c16 : Index := 16#32
  ![v291.toNat, 16]

def k0_chk66 (v276 : IVec S16 32) (v296 : IVec S16 32) : Prop :=
  (∀ a x, ((![v276, v296] : Fin 2 → IVec S16 32) a x).toNat < S32x1024.size a)
theorem k0_idx66_inb : ∀ (v276 : IVec S16 32) (v296 : IVec S16 32) (k0_hw66 : k0_chk66 v276 v296), ∀ a x, ((![v276, v296] : Fin 2 → IVec S16 32) a x).toNat < S32x1024.size a := fun v276 v296 k0_hw66 => k0_hw66
def k0_off61 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v298 : Index := Scalar.indexCast arg17
  let c32 : Index := 32#32
  ![v298.toNat, 32]

def k0_chk67 (v276 : IVec S16 32) (v303 : IVec S16 32) : Prop :=
  (∀ a x, ((![v276, v303] : Fin 2 → IVec S16 32) a x).toNat < S32x1024.size a)
theorem k0_idx67_inb : ∀ (v276 : IVec S16 32) (v303 : IVec S16 32) (k0_hw67 : k0_chk67 v276 v303), ∀ a x, ((![v276, v303] : Fin 2 → IVec S16 32) a x).toNat < S32x1024.size a := fun v276 v303 k0_hw67 => k0_hw67
def k0_off62 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v305 : Index := Scalar.indexCast arg17
  let c48 : Index := 48#32
  ![v305.toNat, 48]

def k0_chk68 (v276 : IVec S16 32) (v310 : IVec S16 32) : Prop :=
  (∀ a x, ((![v276, v310] : Fin 2 → IVec S16 32) a x).toNat < S32x1024.size a)
theorem k0_idx68_inb : ∀ (v276 : IVec S16 32) (v310 : IVec S16 32) (k0_hw68 : k0_chk68 v276 v310), ∀ a x, ((![v276, v310] : Fin 2 → IVec S16 32) a x).toNat < S32x1024.size a := fun v276 v310 k0_hw68 => k0_hw68
def k0_off63 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v312 : Index := Scalar.indexCast arg17
  let c64 : Index := 64#32
  ![v312.toNat, 64]

def k0_chk69 (v276 : IVec S16 32) (v317 : IVec S16 32) : Prop :=
  (∀ a x, ((![v276, v317] : Fin 2 → IVec S16 32) a x).toNat < S32x1024.size a)
theorem k0_idx69_inb : ∀ (v276 : IVec S16 32) (v317 : IVec S16 32) (k0_hw69 : k0_chk69 v276 v317), ∀ a x, ((![v276, v317] : Fin 2 → IVec S16 32) a x).toNat < S32x1024.size a := fun v276 v317 k0_hw69 => k0_hw69
def k0_off64 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v319 : Index := Scalar.indexCast arg17
  let c80 : Index := 80#32
  ![v319.toNat, 80]

def k0_chk70 (v276 : IVec S16 32) (v324 : IVec S16 32) : Prop :=
  (∀ a x, ((![v276, v324] : Fin 2 → IVec S16 32) a x).toNat < S32x1024.size a)
theorem k0_idx70_inb : ∀ (v276 : IVec S16 32) (v324 : IVec S16 32) (k0_hw70 : k0_chk70 v276 v324), ∀ a x, ((![v276, v324] : Fin 2 → IVec S16 32) a x).toNat < S32x1024.size a := fun v276 v324 k0_hw70 => k0_hw70
def k0_off65 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v326 : Index := Scalar.indexCast arg17
  let c96 : Index := 96#32
  ![v326.toNat, 96]

def k0_chk71 (v276 : IVec S16 32) (v331 : IVec S16 32) : Prop :=
  (∀ a x, ((![v276, v331] : Fin 2 → IVec S16 32) a x).toNat < S32x1024.size a)
theorem k0_idx71_inb : ∀ (v276 : IVec S16 32) (v331 : IVec S16 32) (k0_hw71 : k0_chk71 v276 v331), ∀ a x, ((![v276, v331] : Fin 2 → IVec S16 32) a x).toNat < S32x1024.size a := fun v276 v331 k0_hw71 => k0_hw71
def k0_off66 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v333 : Index := Scalar.indexCast arg17
  let c112 : Index := 112#32
  ![v333.toNat, 112]

def k0_chk72 (v276 : IVec S16 32) (v338 : IVec S16 32) : Prop :=
  (∀ a x, ((![v276, v338] : Fin 2 → IVec S16 32) a x).toNat < S32x1024.size a)
theorem k0_idx72_inb : ∀ (v276 : IVec S16 32) (v338 : IVec S16 32) (k0_hw72 : k0_chk72 v276 v338), ∀ a x, ((![v276, v338] : Fin 2 → IVec S16 32) a x).toNat < S32x1024.size a := fun v276 v338 k0_hw72 => k0_hw72
def k0_off67 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v340 : Index := Scalar.indexCast arg17
  let c128 : Index := 128#32
  ![v340.toNat, 128]

def k0_chk73 (v276 : IVec S16 32) (v345 : IVec S16 32) : Prop :=
  (∀ a x, ((![v276, v345] : Fin 2 → IVec S16 32) a x).toNat < S32x1024.size a)
theorem k0_idx73_inb : ∀ (v276 : IVec S16 32) (v345 : IVec S16 32) (k0_hw73 : k0_chk73 v276 v345), ∀ a x, ((![v276, v345] : Fin 2 → IVec S16 32) a x).toNat < S32x1024.size a := fun v276 v345 k0_hw73 => k0_hw73
def k0_off68 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v347 : Index := Scalar.indexCast arg17
  let c144 : Index := 144#32
  ![v347.toNat, 144]

def k0_chk74 (v276 : IVec S16 32) (v352 : IVec S16 32) : Prop :=
  (∀ a x, ((![v276, v352] : Fin 2 → IVec S16 32) a x).toNat < S32x1024.size a)
theorem k0_idx74_inb : ∀ (v276 : IVec S16 32) (v352 : IVec S16 32) (k0_hw74 : k0_chk74 v276 v352), ∀ a x, ((![v276, v352] : Fin 2 → IVec S16 32) a x).toNat < S32x1024.size a := fun v276 v352 k0_hw74 => k0_hw74
def k0_off69 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v354 : Index := Scalar.indexCast arg17
  let c160 : Index := 160#32
  ![v354.toNat, 160]

def k0_chk75 (v276 : IVec S16 32) (v359 : IVec S16 32) : Prop :=
  (∀ a x, ((![v276, v359] : Fin 2 → IVec S16 32) a x).toNat < S32x1024.size a)
theorem k0_idx75_inb : ∀ (v276 : IVec S16 32) (v359 : IVec S16 32) (k0_hw75 : k0_chk75 v276 v359), ∀ a x, ((![v276, v359] : Fin 2 → IVec S16 32) a x).toNat < S32x1024.size a := fun v276 v359 k0_hw75 => k0_hw75
def k0_off70 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v361 : Index := Scalar.indexCast arg17
  let c176 : Index := 176#32
  ![v361.toNat, 176]

def k0_chk76 (v276 : IVec S16 32) (v366 : IVec S16 32) : Prop :=
  (∀ a x, ((![v276, v366] : Fin 2 → IVec S16 32) a x).toNat < S32x1024.size a)
theorem k0_idx76_inb : ∀ (v276 : IVec S16 32) (v366 : IVec S16 32) (k0_hw76 : k0_chk76 v276 v366), ∀ a x, ((![v276, v366] : Fin 2 → IVec S16 32) a x).toNat < S32x1024.size a := fun v276 v366 k0_hw76 => k0_hw76
def k0_off71 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v368 : Index := Scalar.indexCast arg17
  let c192 : Index := 192#32
  ![v368.toNat, 192]

def k0_chk77 (v276 : IVec S16 32) (v373 : IVec S16 32) : Prop :=
  (∀ a x, ((![v276, v373] : Fin 2 → IVec S16 32) a x).toNat < S32x1024.size a)
theorem k0_idx77_inb : ∀ (v276 : IVec S16 32) (v373 : IVec S16 32) (k0_hw77 : k0_chk77 v276 v373), ∀ a x, ((![v276, v373] : Fin 2 → IVec S16 32) a x).toNat < S32x1024.size a := fun v276 v373 k0_hw77 => k0_hw77
def k0_off72 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v375 : Index := Scalar.indexCast arg17
  let c208 : Index := 208#32
  ![v375.toNat, 208]

def k0_chk78 (v276 : IVec S16 32) (v380 : IVec S16 32) : Prop :=
  (∀ a x, ((![v276, v380] : Fin 2 → IVec S16 32) a x).toNat < S32x1024.size a)
theorem k0_idx78_inb : ∀ (v276 : IVec S16 32) (v380 : IVec S16 32) (k0_hw78 : k0_chk78 v276 v380), ∀ a x, ((![v276, v380] : Fin 2 → IVec S16 32) a x).toNat < S32x1024.size a := fun v276 v380 k0_hw78 => k0_hw78
def k0_off73 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v382 : Index := Scalar.indexCast arg17
  let c224 : Index := 224#32
  ![v382.toNat, 224]

def k0_chk79 (v276 : IVec S16 32) (v387 : IVec S16 32) : Prop :=
  (∀ a x, ((![v276, v387] : Fin 2 → IVec S16 32) a x).toNat < S32x1024.size a)
theorem k0_idx79_inb : ∀ (v276 : IVec S16 32) (v387 : IVec S16 32) (k0_hw79 : k0_chk79 v276 v387), ∀ a x, ((![v276, v387] : Fin 2 → IVec S16 32) a x).toNat < S32x1024.size a := fun v276 v387 k0_hw79 => k0_hw79
def k0_off74 (k0_t5 : Fin k0_t5_loop.trips) : Fin 2 → Nat :=
  let c0_i32_193 : BitVec 32 := 0#32
  let c1_i32_195 : BitVec 32 := 1#32
  let arg17 : BitVec 32 := Scf.iv c0_i32_193 c1_i32_195 k0_t5
  let v389 : Index := Scalar.indexCast arg17
  let c240 : Index := 240#32
  ![v389.toNat, 240]

def k0_chk80 (v278 : IVec S16 32) (v397 : IVec S16 32) : Prop :=
  (∀ a x, ((![v278, v397] : Fin 2 → IVec S16 32) a x).toNat < S32x1024.size a)
theorem k0_idx80_inb : ∀ (v278 : IVec S16 32) (v397 : IVec S16 32) (k0_hw80 : k0_chk80 v278 v397), ∀ a x, ((![v278, v397] : Fin 2 → IVec S16 32) a x).toNat < S32x1024.size a := fun v278 v397 k0_hw80 => k0_hw80

def k0_chk81 (v274 : IVec S16 32) (v402 : IVec S16 32) : Prop :=
  (∀ a x, ((![v274, v402] : Fin 2 → IVec S16 32) a x).toNat < S16x256.size a)
theorem k0_idx81_inb : ∀ (v274 : IVec S16 32) (v402 : IVec S16 32) (k0_hw81 : k0_chk81 v274 v402), ∀ a x, ((![v274, v402] : Fin 2 → IVec S16 32) a x).toNat < S16x256.size a := fun v274 v402 k0_hw81 => k0_hw81

def k0_chk82 (v276 : IVec S16 32) (v406 : IVec S16 32) : Prop :=
  (∀ a x, ((![v276, v406] : Fin 2 → IVec S16 32) a x).toNat < S32x128.size a)
theorem k0_idx82_inb : ∀ (v276 : IVec S16 32) (v406 : IVec S16 32) (k0_hw82 : k0_chk82 v276 v406), ∀ a x, ((![v276, v406] : Fin 2 → IVec S16 32) a x).toNat < S32x128.size a := fun v276 v406 k0_hw82 => k0_hw82

def k0_chk83 (v278 : IVec S16 32) (v413 : IVec S16 32) : Prop :=
  (∀ a x, ((![v278, v413] : Fin 2 → IVec S16 32) a x).toNat < S32x128.size a)
theorem k0_idx83_inb : ∀ (v278 : IVec S16 32) (v413 : IVec S16 32) (k0_hw83 : k0_chk83 v278 v413), ∀ a x, ((![v278, v413] : Fin 2 → IVec S16 32) a x).toNat < S32x128.size a := fun v278 v413 k0_hw83 => k0_hw83

def k0_chk84 (v274 : IVec S16 32) (v421 : IVec S16 32) : Prop :=
  (∀ a x, ((![v274, v421] : Fin 2 → IVec S16 32) a x).toNat < S16x256.size a)
theorem k0_idx84_inb : ∀ (v274 : IVec S16 32) (v421 : IVec S16 32) (k0_hw84 : k0_chk84 v274 v421), ∀ a x, ((![v274, v421] : Fin 2 → IVec S16 32) a x).toNat < S16x256.size a := fun v274 v421 k0_hw84 => k0_hw84
def k0_cond2 (k0_t3 : Fin k0_t3_loop.trips) : BitVec 1 :=
  let c1_i32_114 : BitVec 32 := 1#32
  let c1_i32_115 : BitVec 32 := 1#32
  let arg16 : BitVec 32 := Scf.iv c1_i32_114 c1_i32_115 k0_t3
  let c3_i32_199 : BitVec 32 := 3#32
  let v271 : BitVec 1 := Scalar.cmpi .slt arg16 c3_i32_199
  let v272 : BitVec 32 := Scalar.extui v271
  let c0_i32_200 : BitVec 32 := 0#32
  let v273 : BitVec 1 := Scalar.cmpi .ne v272 c0_i32_200
  v273

def k0_off75 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2_i32_164 : BitVec 32 := 2#32
  let c1_i32_114 : BitVec 32 := 1#32
  let c1_i32_115 : BitVec 32 := 1#32
  let arg16 : BitVec 32 := Scf.iv c1_i32_114 c1_i32_115 k0_t3
  let v236 : BitVec 32 := Scalar.muli c2_i32_164 arg16
  let v237 : BitVec 32 := Scalar.addi v2 v236
  let c1_i32_165 : BitVec 32 := 1#32
  let v238 : BitVec 32 := Scalar.addi v237 c1_i32_165
  let c2_i32_201 : BitVec 32 := 2#32
  let v274 : BitVec 32 := Scalar.addi v238 c2_i32_201
  let c4_i32_202 : BitVec 32 := 4#32
  let v275 : BitVec 32 := Scalar.shrsi v274 c4_i32_202
  let c64_i32_204 : BitVec 32 := 64#32
  let c15_i32_203 : BitVec 32 := 15#32
  let v276 : BitVec 32 := Scalar.andi v274 c15_i32_203
  let v277 : BitVec 32 := Scalar.muli c64_i32_204 v276
  let c0_i32_205 : BitVec 32 := 0#32
  ![v275.toNat, v277.toNat, 0]
def k0_off76 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2_i32_164 : BitVec 32 := 2#32
  let c1_i32_114 : BitVec 32 := 1#32
  let c1_i32_115 : BitVec 32 := 1#32
  let arg16 : BitVec 32 := Scf.iv c1_i32_114 c1_i32_115 k0_t3
  let v236 : BitVec 32 := Scalar.muli c2_i32_164 arg16
  let v237 : BitVec 32 := Scalar.addi v2 v236
  let c1_i32_165 : BitVec 32 := 1#32
  let v238 : BitVec 32 := Scalar.addi v237 c1_i32_165
  let c2_i32_201 : BitVec 32 := 2#32
  let v274 : BitVec 32 := Scalar.addi v238 c2_i32_201
  let c4_i32_202 : BitVec 32 := 4#32
  let v275 : BitVec 32 := Scalar.shrsi v274 c4_i32_202
  let c64_i32_204 : BitVec 32 := 64#32
  let c15_i32_203 : BitVec 32 := 15#32
  let v276 : BitVec 32 := Scalar.andi v274 c15_i32_203
  let v277 : BitVec 32 := Scalar.muli c64_i32_204 v276
  let c32_i32_207 : BitVec 32 := 32#32
  let v282 : BitVec 32 := Scalar.addi v277 c32_i32_207
  let c32_i32_208 : BitVec 32 := 32#32
  let v283 : BitVec 32 := Scalar.addi v277 c32_i32_208
  let c0_i32_210 : BitVec 32 := 0#32
  let v285 : BitVec 1 := Scalar.cmpi .sgt v283 c0_i32_210
  let v286 : BitVec 32 := Scalar.extui v285
  let c0_i32_211 : BitVec 32 := 0#32
  let v287 : BitVec 1 := Scalar.cmpi .slt v283 c0_i32_211
  let v288 : BitVec 32 := Scalar.extui v287
  let v289 : BitVec 32 := Scalar.subi v286 v288
  let c128_i32_209 : BitVec 32 := 128#32
  let c0_i32_212 : BitVec 32 := 0#32
  let v290 : BitVec 1 := Scalar.cmpi .sgt c128_i32_209 c0_i32_212
  let v291 : BitVec 32 := Scalar.extui v290
  let c0_i32_213 : BitVec 32 := 0#32
  let v292 : BitVec 1 := Scalar.cmpi .slt c128_i32_209 c0_i32_213
  let v293 : BitVec 32 := Scalar.extui v292
  let v294 : BitVec 32 := Scalar.subi v291 v293
  let v295 : BitVec 1 := Scalar.cmpi .ne v289 v294
  let v296 : BitVec 32 := Scalar.remsi v283 c128_i32_209
  let c0_i32_214 : BitVec 32 := 0#32
  let v297 : BitVec 1 := Scalar.cmpi .ne v296 c0_i32_214
  let v298 : BitVec 1 := Scalar.andi v295 v297
  let v284 : BitVec 32 := Scalar.divsi v283 c128_i32_209
  let c1_i32_215 : BitVec 32 := 1#32
  let v299 : BitVec 32 := Scalar.subi v284 c1_i32_215
  let v300 : BitVec 32 := Scalar.select v298 v299 v284
  let c128_i32_216 : BitVec 32 := 128#32
  let v301 : BitVec 32 := Scalar.muli v300 c128_i32_216
  ![v275.toNat, v282.toNat, v301.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x1024 : Shape := ⟨3, ![16, 1024, 1024]⟩
abbrev S73984 : Shape := ⟨1, ![73984]⟩
abbrev S_ : Shape := ⟨0, ![]⟩
abbrev S73984x1 : Shape := ⟨2, ![73984, 1]⟩
abbrev S73984x2 : Shape := ⟨2, ![73984, 2]⟩
abbrev S16x73984 : Shape := ⟨2, ![16, 73984]⟩
abbrev S16x256x256 : Shape := ⟨3, ![16, 256, 256]⟩

abbrev nBuf : Space → Nat
  | .hbm => 43
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S73984, .i32⟩
  | .hbm, ⟨2, _⟩ => ⟨S73984, .i32⟩
  | .hbm, ⟨3, _⟩ => ⟨S73984, .i32⟩
  | .hbm, ⟨4, _⟩ => ⟨S73984, .i32⟩
  | .hbm, ⟨5, _⟩ => ⟨S_, .i32⟩
  | .hbm, ⟨6, _⟩ => ⟨S73984, .i32⟩
  | .hbm, ⟨7, _⟩ => ⟨S73984, .i1⟩
  | .hbm, ⟨8, _⟩ => ⟨S_, .i32⟩
  | .hbm, ⟨9, _⟩ => ⟨S73984, .i32⟩
  | .hbm, ⟨10, _⟩ => ⟨S73984, .i32⟩
  | .hbm, ⟨11, _⟩ => ⟨S73984, .i32⟩
  | .hbm, ⟨12, _⟩ => ⟨S_, .i32⟩
  | .hbm, ⟨13, _⟩ => ⟨S73984, .i32⟩
  | .hbm, ⟨14, _⟩ => ⟨S73984, .i1⟩
  | .hbm, ⟨15, _⟩ => ⟨S_, .i32⟩
  | .hbm, ⟨16, _⟩ => ⟨S73984, .i32⟩
  | .hbm, ⟨17, _⟩ => ⟨S73984, .i32⟩
  | .hbm, ⟨18, _⟩ => ⟨S73984, .i32⟩
  | .hbm, ⟨19, _⟩ => ⟨S73984x1, .i32⟩
  | .hbm, ⟨20, _⟩ => ⟨S73984x1, .i32⟩
  | .hbm, ⟨21, _⟩ => ⟨S73984x2, .i32⟩
  | .hbm, ⟨22, _⟩ => ⟨S16x73984, .f32⟩
  | .hbm, ⟨23, _⟩ => ⟨S_, .f32⟩
  | .hbm, ⟨24, _⟩ => ⟨S16x256x256, .f32⟩
  | .hbm, ⟨25, _⟩ => ⟨S_, .i32⟩
  | .hbm, ⟨26, _⟩ => ⟨S73984, .i32⟩
  | .hbm, ⟨27, _⟩ => ⟨S73984, .i1⟩
  | .hbm, ⟨28, _⟩ => ⟨S_, .i32⟩
  | .hbm, ⟨29, _⟩ => ⟨S73984, .i32⟩
  | .hbm, ⟨30, _⟩ => ⟨S73984, .i32⟩
  | .hbm, ⟨31, _⟩ => ⟨S73984, .i32⟩
  | .hbm, ⟨32, _⟩ => ⟨S_, .i32⟩
  | .hbm, ⟨33, _⟩ => ⟨S73984, .i32⟩
  | .hbm, ⟨34, _⟩ => ⟨S73984, .i1⟩
  | .hbm, ⟨35, _⟩ => ⟨S_, .i32⟩
  | .hbm, ⟨36, _⟩ => ⟨S73984, .i32⟩
  | .hbm, ⟨37, _⟩ => ⟨S73984, .i32⟩
  | .hbm, ⟨38, _⟩ => ⟨S73984, .i32⟩
  | .hbm, ⟨39, _⟩ => ⟨S73984x1, .i32⟩
  | .hbm, ⟨40, _⟩ => ⟨S73984x1, .i32⟩
  | .hbm, ⟨41, _⟩ => ⟨S73984x2, .i32⟩
  | .hbm, ⟨42, _⟩ => ⟨S16x256x256, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Setup.lean ====
/-
  The set-up every part of the certificate of the pooling kernel shares: the program as the launch theorem sees it, the
  resource algebra of the handshakes and the transfers, and what it is to hold a tile's scratch buffer at known contents.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A buffer held at known contents -/

/-- Thread `thr` holds the buffer `mr` names outright, and it reads `g`. -/
def bufAt (thr : Thread nD τ) {sp : Space} {s : Shape} {e : EltTy} (mr : Memref sig thr.2.kind sp s e) (g : Vec F s e) : sProp 𝕄 :=
  iprop(∃ f, ⌜mr.view.read (Elt F) f = g⌝ ∗ (mr.view.loc thr ↦[mr.view.set]{fullShare} f))

section Rules

variable [FloatOps F] {d : Dev nD} {c : Fin τ.nSC} {j : Fin τ.nSub} {α : Type} {s t : Shape} {e : EltTy}

/-- The program logic at vector subcore `(c, j)` of device `d`. -/
abbrev wpV (d : Dev nD) (c : Fin τ.nSC) (j : Fin τ.nSub) {α : Type} (p : Prog (TpuEff nD τ sig (Elt F) Λ₀ (.scVector c j)) α) (Q : α → sProp 𝕄) : sProp 𝕄 :=
  wp frame (wpE (defs₀ (F := F)) 𝒱₀ (V d c j) none) Set.univ p Q

omit [FloatOps F] in
theorem access_whole_set (m : Memref sig .scVector .vmem s e) : (m.access (.whole s)).set = m.view.set := by
  show (m.view.slice (Rect.whole s)).set = _
  rw [View.set_slice, Rect.set_whole]; rfl

omit [FloatOps F] in
theorem access_whole_read (m : Memref sig .scVector .vmem s e) (f : m.view.ty.Contents (Elt F)) :
    (m.access (.whole s)).read (Elt F) f = m.view.read (Elt F) f := by
  funext x
  show m.view.read (Elt F) f ((Rect.whole s).emb x) = _
  rw [Rect.emb_whole_apply]

omit [FloatOps F] in
theorem access_whole_write_read (m : Memref sig .scVector .vmem s e) (f : m.view.ty.Contents (Elt F)) (w : Vec F s e) :
    m.view.read (Elt F) ((m.access (.whole s)).write (Elt F) f w Finset.univ) = w := by
  rw [← access_whole_read, View.read_write_univ]

/-- A gather out of a buffer held at known contents. -/
theorem wp_loadIdx {Q : α → sProp 𝕄} {a : Memref sig .scVector .vmem s e} {g : Vec F s e} {idxs : Fin s.rank → IVec t 32}
    {h : ∀ a x, (idxs a x).toNat < s.size a} {hl : a.view.Loads} {k : Vec F t e → Prog (TpuEff nD τ sig (Elt F) Λ₀ (.scVector c j)) α} :
    bufAt (V d c j) a g
      ⊢ iprop((bufAt (V d c j) a g -∗ wpV d c j (k (loadIdx g idxs h)) Q)
        -∗ wpV d c j (SparseCore.vectorLoadIdx a idxs h hl >>= k) Q) := by
  unfold bufAt
  iintro ⟨%f, %hf, Hf⟩ Hk
  iapply (SparseCore.wp_vectorLoadIdx (defs := defs₀ (F := F)) 𝒱₀ (V d c j) none Set.univ (base := a) (S := a.view.set) (f := f) (q := fullShare)
    (access_whole_set a).subset) $$ Hf
  iintro Hf
  rw [access_whole_read, hf]
  iapply Hk
  iexists f; isplitr
  · ipureintro; exact hf
  · iexact Hf

/-- A scatter into one. -/
theorem wp_storeIdx {Q : α → sProp 𝕄} {n : Fin 1 → ℕ} {a : Memref sig .scVector .vmem s e} {g : Vec F s e} {idxs : Fin s.rank → IVec ⟨1, n⟩ 32} {v : Vec F ⟨1, n⟩ e}
    {mask : IVec ⟨1, n⟩ 1} {add : Bool} {h : ∀ a x, (idxs a x).toNat < s.size a} {hs : (a.access (.whole s)).Stores Finset.univ}
    {k : PUnit → Prog (TpuEff nD τ sig (Elt F) Λ₀ (.scVector c j)) α} :
    bufAt (V d c j) a g
      ⊢ iprop((bufAt (V d c j) a (storeIdx g idxs v mask add h) -∗ wpV d c j (k ⟨⟩) Q)
        -∗ wpV d c j (SparseCore.vectorStoreIdx a idxs v mask add h hs >>= k) Q) := by
  unfold bufAt
  iintro ⟨%f, %hf, Hf⟩ Hk
  ihave Hf := (Entails.of_eq (show (a.view.loc (V d c j) ↦[a.view.set]{fullShare} f : sProp 𝕄)
    = ((a.access (.whole s)).loc (V d c j) ↦[(a.access (.whole s)).set]{fullShare} f) by rw [access_whole_set])) $$ Hf
  iapply (SparseCore.wp_vectorStoreIdx (defs := defs₀ (F := F)) 𝒱₀ (V d c j) none Set.univ (base := a) (f := f)) $$ Hf
  iintro Hf
  iapply Hk
  rw [access_whole_set, access_whole_read, hf]
  iexists _; isplitr
  swap; · iexact Hf
  ipureintro; exact access_whole_write_read a f _

/-- A load of part of it, whose value nothing uses. -/
theorem wp_loadPart {Q : α → sProp 𝕄} {a : Memref sig .scVector .vmem s e} {g : Vec F s e} {r : Rect s} {hl : a.view.LoadsAt r}
    {k : (r.shape.Idx → Elt F e) → Prog (TpuEff nD τ sig (Elt F) Λ₀ (.scVector c j)) α} :
    bufAt (V d c j) a g
      ⊢ iprop((∀ v, bufAt (V d c j) a g -∗ wpV d c j (k v) Q)
        -∗ wpV d c j (.op (.load a r.toLoadRect hl) k) Q) := by
  unfold bufAt
  iintro ⟨%f, %hf, Hf⟩ Hk
  iapply (wp_load_rect (defs := defs₀ (F := F)) 𝒱₀ (V d c j) none Set.univ (m := a) (r := r) (S := a.view.set) (f := f) (q := fullShare)
    (View.set_slice_subset _ _)) $$ Hf
  iintro Hf
  iapply Hk
  iexists f; isplitr
  · ipureintro; exact hf
  · iexact Hf

/-- A store of the part `r`: contents that are the stored value on `r` and the old ones off it. -/
theorem wp_storePart {Q : α → sProp 𝕄} {a : Memref sig .scVector .vmem s e} {g g' : Vec F s e} {r : Rect s} {w : r.shape.Idx → Elt F e}
    {hx : (a.access r).Stores Finset.univ} {hm : (Finset.univ : Finset r.shape.Idx) = Finset.univ ∨ ∀ a, r.stride a = 1}
    {k : PUnit → Prog (TpuEff nD τ sig (Elt F) Λ₀ (.scVector c j)) α}
    (h₁ : ∀ x, g' (r.emb x) = w x) (h₂ : ∀ y, y ∉ r.set → g' y = g y) :
    bufAt (V d c j) a g
      ⊢ iprop((bufAt (V d c j) a g' -∗ wpV d c j (k ⟨⟩) Q)
        -∗ wpV d c j (.op (.store a r w Finset.univ hx hm) k) Q) := by
  unfold bufAt
  iintro ⟨%f, %hf, Hf⟩ Hk
  iapply (wp_store (defs := defs₀ (F := F)) 𝒱₀ (V d c j) none Set.univ (m := a) (r := r) (S := a.view.set) (f := f)
    (View.setOn_univ _ ▸ View.set_slice_subset _ _)) $$ Hf
  iintro Hf
  iapply Hk
  iexists _; isplitr
  swap; · iexact Hf
  ipureintro
  funext y
  by_cases hy : y ∈ r.set
  · obtain ⟨x, rfl⟩ : ∃ x, r.emb x = y := r.exists_idx_of_mem hy
    exact (View.read_slice_write_emb r f w (Finset.mem_univ x)).trans (h₁ x).symm
  · exact (View.read_slice_write_of_not_mem r f w Finset.univ (by rwa [Rect.map_emb_univ])).trans ((congrFun hf y).trans (h₂ y hy).symm)

end Rules

end Cert.Proof.Pool
-- ==== Proof.Row.lean ====
/-
  One trip of the kernel's row loop. Each of the kernel's four row loops runs the same program over its own buffers
  (`rowProg`): sixteen contiguous stores of a row of the output block, then two scatter-adds into the same row.
-/
module

public import proofs.«01_k».proof.Proof.Setup
public import Idealize.ShloMosaic.Lib.Pointwise.Index
public import Idealize.ShloMosaic.Lib.Pipeline.Value

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The row's program -/

/-- The trip's index word. -/
abbrev ivT (t : ℕ) : BitVec 32 := Scf.iv 0#32 1#32 t
/-- Row `2t` of the fetched rows, one word per lane. -/
abbrev rowW (t : ℕ) : IVec S16 32 := muli (broadcast S16 2#32) (broadcast S16 (ivT t))
/-- Row `2t + 1`. -/
abbrev rowW1 (t : ℕ) : IVec S16 32 := addi (rowW t) (broadcast S16 1#32)
/-- The columns of chunk `k`: `64 k + 2 m` at lane `m`. -/
abbrev colW (v3 : IVec S16 32) (k : Fin 16) : IVec S16 32 :=
  addi (broadcast S16 (BitVec.ofNat 32 (64 * k.val))) (muli (broadcast S16 2#32) v3)
/-- The columns of the second term: `64 l + 2 t + 1` at lane `l`. -/
abbrev diagW (v3 : IVec S16 32) (t : ℕ) : IVec S16 32 :=
  addi (addi (muli (broadcast S16 64#32) v3) (broadcast S16 (Scalar.muli 2#32 (ivT t)))) (broadcast S16 1#32)
/-- Where the second term goes: `16 l + t` at lane `l`. -/
abbrev diagO (v3 : IVec S16 32) (t : ℕ) : IVec S16 32 := addi (muli (broadcast S16 16#32) v3) (broadcast S16 (ivT t))
/-- The first column of block `g`'s own strip inside the 128-column window fetched of it. -/
abbrev offW (g : BitVec 32) : BitVec 32 :=
  let v80 : BitVec 32 := Scalar.addi (Scalar.muli 64#32 (Scalar.andi g 15#32)) 32#32
  let v82 : BitVec 32 := Scalar.select (Scalar.cmpi .eq 128#32 0#32) 1#32 128#32
  let v83 : BitVec 32 := Scalar.remsi v80 v82
  Scalar.select (Scalar.andi (Scalar.xori (Scalar.cmpi .slt v83 0#32) (Scalar.cmpi .slt v82 0#32)) (Scalar.cmpi .ne v83 0#32)) (Scalar.addi v83 v82) v83
/-- The columns of the third term in that window: `off + 2 m`. -/
abbrev ownW (v3 : IVec S16 32) (g : BitVec 32) : IVec S16 32 := addi (broadcast S16 (offW g)) (muli (broadcast S16 2#32) v3)
/-- The column of the fourth term in it: `off + 2 t + 1`, the same at every lane. -/
abbrev ownD (g : BitVec 32) (t : ℕ) : IVec S16 32 :=
  addi (addi (broadcast S16 (offW g)) (broadcast S16 (Scalar.muli 2#32 (ivT t)))) (broadcast S16 1#32)
/-- Where the third and fourth terms go: `16 i0 + m`. -/
abbrev ownO (v3 : IVec S16 32) (g : BitVec 32) : IVec S16 32 := addi (broadcast S16 (Scalar.muli 16#32 (Scalar.andi g 15#32))) v3
/-- What the last scatter-add adds: the third term, and at lane `t` the fourth too. -/
abbrev ownV [FloatOps F] (v3 : IVec S16 32) (t : ℕ) (cv dv : Vec F S16 .f32) : Vec F S16 .f32 :=
  addf cv (select (cmpi .eq v3 (broadcast S16 (ivT t))) dv (broadcast S16 (Scalar.ofBits (F := F) .f32 0x00000000#32)))

/-- Where chunk `k` of row `t` goes. -/
abbrev offT (t : ℕ) (k : Fin 16) : Fin 2 → ℕ := ![(Scalar.indexCast (ivT t)).toNat, 16 * k.val]

theorem offT_inb : ∀ (t : Fin 16) (k : Fin 16) (a : Fin 2), offT t k a + S1x16.size a ≤ S16x256.size a := by decide +kernel

section Prog

variable [FloatOps F] {c : Fin τ.nSC} {j : Fin τ.nSub}
variable (a4 : Memref sig .scVector .vmem S32x1024 .f32) (a6 : Memref sig .scVector .vmem S32x128 .f32) (a8 : Memref sig .scVector .vmem S16x256 .f32)

/-- Chunk `k` of row `t`: a gather out of the fetched rows, stored. -/
def chunkProg (v3 : IVec S16 32) (t : Fin 16) (k : Fin 16) : Prog (TpuEff nD τ sig (Elt F) Λ₀ (.scVector c j)) PUnit := do
  have hw : k0_chk1 (rowW t) (colW v3 k) := (← Prog.lift (TpuEff.assume (k0_chk1 (rowW t) (colW v3 k)) (k0_chk1.dec _ _))).down
  let v ← SparseCore.vectorLoadIdx a4 ![rowW t, colW v3 k] hw (View.loads_vmem h_S32x1024)
  let _ ← Prog.lift (.load a8 (Rect.unit (s := S16x256) (offT t k) S1x16.size (offT_inb t k)).toLoadRect (View.loadsAt_vmem h_S1x16))
  Prog.lift (.store a8 (Rect.unit (s := S16x256) (offT t k) S1x16.size (offT_inb t k)) (shapeCast S1x16 v shapeCasts_S16_S1x16) Finset.univ
    (View.stores_vmem_bits_univ h_S1x16 rfl) (.inl rfl))

/-- A run of chunks. -/
def chunksProg (v3 : IVec S16 32) (t : Fin 16) : List (Fin 16) → Prog (TpuEff nD τ sig (Elt F) Λ₀ (.scVector c j)) PUnit
  | [] => pure ⟨⟩
  | k :: ks => chunkProg a4 a8 v3 t k >>= fun _ => chunksProg v3 t ks

/-- The two scatter-adds of row `t`. -/
def tailProg (v3 : IVec S16 32) (g : BitVec 32) (t : Fin 16) : Prog (TpuEff nD τ sig (Elt F) Λ₀ (.scVector c j)) Unit := do
  have hw : k0_chk17 (rowW1 t) (diagW v3 t) := (← Prog.lift (TpuEff.assume (k0_chk17 (rowW1 t) (diagW v3 t)) (k0_chk17.dec _ _))).down
  let bv ← SparseCore.vectorLoadIdx a4 ![rowW1 t, diagW v3 t] hw (View.loads_vmem h_S32x1024)
  have hw : k0_chk18 (broadcast S16 (ivT t)) (diagO v3 t) := (← Prog.lift (TpuEff.assume (k0_chk18 (broadcast S16 (ivT t)) (diagO v3 t)) (k0_chk18.dec _ _))).down
  SparseCore.vectorStoreIdx a8 ![broadcast S16 (ivT t), diagO v3 t] bv (fun _ => 1#1) true hw (View.stores_vmem_bits_univ h_S16x256 rfl)
  have hw : k0_chk19 (rowW t) (ownW v3 g) := (← Prog.lift (TpuEff.assume (k0_chk19 (rowW t) (ownW v3 g)) (k0_chk19.dec _ _))).down
  let cv ← SparseCore.vectorLoadIdx a6 ![rowW t, ownW v3 g] hw (View.loads_vmem h_S32x128)
  have hw : k0_chk20 (rowW1 t) (ownD g t) := (← Prog.lift (TpuEff.assume (k0_chk20 (rowW1 t) (ownD g t)) (k0_chk20.dec _ _))).down
  let dv ← SparseCore.vectorLoadIdx a6 ![rowW1 t, ownD g t] hw (View.loads_vmem h_S32x128)
  have hw : k0_chk21 (broadcast S16 (ivT t)) (ownO v3 g) := (← Prog.lift (TpuEff.assume (k0_chk21 (broadcast S16 (ivT t)) (ownO v3 g)) (k0_chk21.dec _ _))).down
  SparseCore.vectorStoreIdx a8 ![broadcast S16 (ivT t), ownO v3 g] (ownV v3 t cv dv) (fun _ => 1#1) true hw (View.stores_vmem_bits_univ h_S16x256 rfl)
  pure ⟨⟩

/-- Row `t`: the sixteen chunks, then the two scatter-adds. -/
def rowProg (v3 : IVec S16 32) (g : BitVec 32) (t : Fin 16) : Prog (TpuEff nD τ sig (Elt F) Λ₀ (.scVector c j)) Unit :=
  chunksProg a4 a8 v3 t [0, 1, 2, 3, 4, 5, 6, 7, 8, 9, 10, 11, 12, 13, 14, 15] >>= fun _ => tailProg a4 a6 a8 v3 g t

end Prog

/-! ## What the words are -/

/-- The lane numbers. -/
abbrev lanes : IVec S16 32 := iota .scVector S16 32 [0] iota_S16_d0_w32_scVector
/-- Block number `g` as a word. -/
abbrev gW (g : ℕ) : BitVec 32 := BitVec.ofNat 32 g

theorem ivT_toNat : ∀ t : Fin 16, (ivT t).toNat = t.val := by decide +kernel
theorem rowW_toNat : ∀ (t x : Fin 16), (rowW t (ix1 x)).toNat = 2 * t.val := by decide +kernel
theorem rowW1_toNat : ∀ (t x : Fin 16), (rowW1 t (ix1 x)).toNat = 2 * t.val + 1 := by decide +kernel
theorem colW_toNat : ∀ (k x : Fin 16), (colW lanes k (ix1 x)).toNat = 64 * k.val + 2 * x.val := by decide +kernel
theorem diagW_toNat : ∀ (t x : Fin 16), (diagW lanes t (ix1 x)).toNat = 64 * x.val + 2 * t.val + 1 := by decide +kernel
theorem diagO_toNat : ∀ (t x : Fin 16), (diagO lanes t (ix1 x)).toNat = 16 * x.val + t.val := by decide +kernel
theorem lane_eq : ∀ (t x : Fin 16), Iff (cmpi .eq lanes (broadcast S16 (ivT t)) (ix1 x) = 1#1) (x = t) := by decide +kernel

/-- Block `g`'s row of blocks, and the first column of its strip in the fetched window. -/
abbrev rowOf (g : ℕ) : ℕ := g % 16
abbrev offOf (g : ℕ) : ℕ := (64 * (g % 16) + 32) % 128

theorem offW_eq : ∀ g : Fin 256, offW (gW g) = BitVec.ofNat 32 (offOf g) := by decide +kernel
theorem and_eq : ∀ g : Fin 256, Scalar.andi (gW g) 15#32 = BitVec.ofNat 32 (rowOf g) := by decide +kernel
theorem offOf_eq (g : ℕ) : offOf g = 32 ∨ offOf g = 96 := by unfold offOf; omega

theorem ownW_toNat (g : Fin 256) (x : Fin 16) : (ownW lanes (gW g) (ix1 x)).toNat = offOf g + 2 * x.val := by
  show (addi (broadcast S16 (offW (gW g))) (muli (broadcast S16 2#32) lanes) (ix1 x)).toNat = _
  rw [offW_eq]
  rcases offOf_eq g with h | h <;> rw [h] <;> revert x <;> decide +kernel
theorem ownD_toNat (g : Fin 256) (t x : Fin 16) : (ownD (gW g) t (ix1 x)).toNat = offOf g + 2 * t.val + 1 := by
  show (addi (addi (broadcast S16 (offW (gW g))) (broadcast S16 (Scalar.muli 2#32 (ivT t)))) (broadcast S16 1#32) (ix1 x)).toNat = _
  rw [offW_eq]
  rcases offOf_eq g with h | h <;> rw [h] <;> revert t x <;> decide +kernel
theorem ownO_toNat' : ∀ i x : Fin 16, (addi (broadcast S16 (Scalar.muli 16#32 (BitVec.ofNat 32 i.val))) lanes (ix1 x)).toNat = 16 * i.val + x.val := by
  decide +kernel
theorem ownO_toNat (g : Fin 256) (x : Fin 16) : (ownO lanes (gW g) (ix1 x)).toNat = 16 * rowOf g + x.val := by
  show (addi (broadcast S16 (Scalar.muli 16#32 (Scalar.andi (gW g) 15#32))) lanes (ix1 x)).toNat = _
  rw [and_eq]
  exact ownO_toNat' ⟨rowOf g, Nat.mod_lt _ (by decide)⟩ x

/-! ## Scatter-adds whose lanes name distinct elements -/

section Scatter

variable [FloatOps F] {s : Shape} {n : ℕ} {e : EltTy}

theorem scatter_miss (f : Vec F s e) (idxs : Fin s.rank → IVec ⟨1, ![n]⟩ 32) (v : Vec F ⟨1, ![n]⟩ e)
    (h : ∀ a x, (idxs a x).toNat < s.size a) (j : s.Idx) (hj : ∀ x, ∃ a, (j a).val ≠ (idxs a x).toNat) :
    storeIdx f idxs v (fun _ => 1#1) true h j = f j := by
  unfold storeIdx
  generalize List.finRange ((![n] : Fin 1 → ℕ) 0) = L
  induction L generalizing f with
  | nil => rfl
  | cons k L ih =>
    rw [List.foldl_cons, ih]
    obtain ⟨a, ha⟩ := hj (Shape.ofLane k)
    exact if_neg fun hh => ha (hh a)

theorem scatter_hit (f : Vec F s e) (idxs : Fin s.rank → IVec ⟨1, ![n]⟩ 32) (v : Vec F ⟨1, ![n]⟩ e)
    (h : ∀ a x, (idxs a x).toNat < s.size a) (j : s.Idx) (x : Fin n) (hx : ∀ a, (j a).val = (idxs a (ix1 x)).toNat)
    (hd : ∀ y : Fin n, (∀ a, (idxs a (ix1 y)).toNat = (idxs a (ix1 x)).toNat) → y = x) :
    storeIdx f idxs v (fun _ => 1#1) true h j = Elt.idxAdd e (f j) (v (ix1 x)) := by
  have hl : ∀ k : Fin n, Shape.ofLane (d := ![n]) k = ix1 k := fun k => eq_ix1 _
  have key : ∀ (L : List (Fin n)) (f : Vec F s e), L.Nodup →
      L.foldl (fun g k => fun j' : s.Idx => if (∀ a, (j' a).val = (idxAt idxs h (ix1 k) a).val) then Elt.idxAdd e (g (idxAt idxs h (ix1 k))) (v (ix1 k)) else g j') f j
        = if x ∈ L then Elt.idxAdd e (f j) (v (ix1 x)) else f j := by
    intro L
    induction L with
    | nil => intro f _; simp
    | cons k L ih =>
      intro f hn
      rw [List.foldl_cons, ih _ hn.of_cons]
      by_cases hk : k = x
      · subst hk
        have hnx : k ∉ L := (List.nodup_cons.mp hn).1
        rw [if_neg hnx, if_pos List.mem_cons_self]
        have hj : j = idxAt idxs h (ix1 k) := funext fun a => Fin.ext (hx a)
        refine (if_pos fun a => hx a).trans ?_
        rw [← hj]
      · have hne : ¬ ∀ a, (j a).val = (idxAt idxs h (ix1 k) a).val := fun hh => hk (hd k fun a => (hh a).symm.trans (hx a))
        rw [if_neg hne]
        have : (x ∈ k :: L) = (x ∈ L) := by simp [Ne.symm hk]
        simp only [this]
  have := key (List.finRange n) f (List.nodup_finRange n)
  rw [if_pos (List.mem_finRange x)] at this
  refine Eq.trans ?_ this
  unfold storeIdx
  refine congrFun (congrArg (fun F' => List.foldl F' f (List.finRange n)) ?_) j
  funext g k j'
  rw [← hl k]
  by_cases hc : ∀ a, (j' a).val = (idxAt idxs h (Shape.ofLane k) a).val
  · exact (if_pos hc).trans (if_pos hc).symm
  · exact (if_neg hc).trans (if_neg hc).symm

end Scatter

/-! ## The row's value -/

section Value

variable [FloatOps F]

/-- The fetched rows and the fetched window, read by number. -/
abbrev rdR (R : Vec F S32x1024 .f32) (a b : ℕ) : F .f32 := R (ix2 (Fin.ofNat 32 a) (Fin.ofNat 1024 b))
abbrev rdC (C : Vec F S32x128 .f32) (a b : ℕ) : F .f32 := C (ix2 (Fin.ofNat 32 a) (Fin.ofNat 128 b))

/-- The output block of block `g`: row `t`, column `16 l + m`. -/
def outBlk (g : ℕ) (R : Vec F S32x1024 .f32) (C : Vec F S32x128 .f32) : Vec F S16x256 .f32 := fun j =>
  let t := (j 0).val
  let l := (j 1).val / 16
  let m := (j 1).val % 16
  let a := rdR R (2 * t) (64 * l + 2 * m)
  let b := if m = t then Elt.idxAdd (F := F) .f32 a (rdR R (2 * t + 1) (64 * l + 2 * t + 1)) else a
  if l = rowOf g then
    Elt.idxAdd (F := F) .f32 b (FloatOps.addf (rdC C (2 * t) (offOf g + 2 * m))
      (if m = t then rdC C (2 * t + 1) (offOf g + 2 * t + 1) else Scalar.ofBits (F := F) .f32 0x00000000#32))
  else b

/-- The output buffer after `n` rows. -/
def blkN (n g : ℕ) (R : Vec F S32x1024 .f32) (C : Vec F S32x128 .f32) (g₀ : Vec F S16x256 .f32) : Vec F S16x256 .f32 :=
  fun j => if (j 0).val < n then outBlk g R C j else g₀ j

theorem blkN_zero (g : ℕ) (R : Vec F S32x1024 .f32) (C : Vec F S32x128 .f32) (g₀ : Vec F S16x256 .f32) : blkN 0 g R C g₀ = g₀ :=
  funext fun j => if_neg (Nat.not_lt_zero _)

theorem blkN_all (g : ℕ) (R : Vec F S32x1024 .f32) (C : Vec F S32x128 .f32) (g₀ : Vec F S16x256 .f32) : blkN 16 g R C g₀ = outBlk g R C :=
  funext fun j => if_pos (j 0).isLt

/-- Chunk `k` of row `t` put. -/
def putChunk (R : Vec F S32x1024 .f32) (t : Fin 16) (f : Vec F S16x256 .f32) (k : Fin 16) : Vec F S16x256 .f32 :=
  fun j => if (j 0).val = t.val ∧ (j 1).val / 16 = k.val then rdR R (2 * t) (64 * k + 2 * ((j 1).val % 16)) else f j

theorem putChunks (R : Vec F S32x1024 .f32) (t : Fin 16) (j : S16x256.Idx) :
    ∀ (ks : List (Fin 16)) (f : Vec F S16x256 .f32), ks.foldl (putChunk R t) f j
      = if (j 0).val = t.val ∧ (∃ k ∈ ks, (j 1).val / 16 = k.val) then rdR R (2 * t) (64 * ((j 1).val / 16) + 2 * ((j 1).val % 16)) else f j
  | [], f => by simp
  | k :: ks, f => by
    rw [List.foldl_cons, putChunks R t j ks]
    by_cases h0 : (j 0).val = t.val
    · by_cases h1 : ∃ k' ∈ ks, (j 1).val / 16 = k'.val
      · obtain ⟨k', hk', e⟩ := h1
        rw [if_pos ⟨h0, k', hk', e⟩, if_pos ⟨h0, k', List.mem_cons_of_mem _ hk', e⟩]
      · rw [if_neg fun h => h1 h.2]
        unfold putChunk
        by_cases h2 : (j 1).val / 16 = k.val
        · rw [if_pos ⟨h0, h2⟩, if_pos ⟨h0, k, List.mem_cons_self, h2⟩, h2]
        · rw [if_neg fun h => h2 h.2, if_neg]
          rintro ⟨-, k', hk', e⟩
          rcases List.mem_cons.mp hk' with rfl | hk'
          · exact h2 e
          · exact h1 ⟨k', hk', e⟩
    · rw [if_neg fun h => h0 h.1, if_neg fun h => h0 h.1]
      exact if_neg fun h => h0 h.1

theorem idx_eq {n₀ n₁ : ℕ} {x : (⟨2, ![n₀, n₁]⟩ : Shape).Idx} {a b : ℕ} [NeZero n₀] [NeZero n₁] (h0 : (x 0).val = a) (h1 : (x 1).val = b) :
    x = ix2 (Fin.ofNat n₀ a) (Fin.ofNat n₁ b) := by
  subst h0 h1
  rw [eq_ix2 x]
  congr 1 <;> exact Fin.ext (Nat.mod_eq_of_lt (Fin.isLt _)).symm

end Value

/-! ## The row's run -/

section Run

variable [FloatOps F] {d : Dev nD} {c : Fin τ.nSC} {j : Fin τ.nSub}
variable {a4 : Memref sig .scVector .vmem S32x1024 .f32} {a6 : Memref sig .scVector .vmem S32x128 .f32} {a8 : Memref sig .scVector .vmem S16x256 .f32}

theorem chk_col (t k : Fin 16) : k0_chk1 (rowW t) (colW lanes k) := by
  intro a x
  rw [eq_ix1 x]
  match a with
  | 0 => exact (rowW_toNat t (x 0)).trans_lt (show _ < 32 by omega)
  | 1 => exact (colW_toNat k (x 0)).trans_lt (show _ < 1024 by have := (x 0).isLt; change _ < 16 at this; omega)

theorem offT_eq (t k : Fin 16) : offT t k = ![t.val, 16 * k.val] := by
  funext a
  match a with
  | 0 => exact ivT_toNat t
  | 1 => rfl

theorem wp_chunk (t k : Fin 16) (R : Vec F S32x1024 .f32) (f : Vec F S16x256 .f32)
    {α : Type} {kk : PUnit → Prog (TpuEff nD τ sig (Elt F) Λ₀ (.scVector c j)) α} {Q : α → sProp 𝕄} :
    iprop(bufAt (V d c j) a4 R ∗ bufAt (V d c j) a8 f)
      ⊢ iprop((bufAt (V d c j) a4 R ∗ bufAt (V d c j) a8 (putChunk R t f k) -∗ wpV d c j (kk ⟨⟩) Q)
        -∗ wpV d c j (chunkProg a4 a8 lanes t k >>= kk) Q) := by
  have e : (chunkProg a4 a8 lanes t k >>= kk : Prog (TpuEff nD τ sig (Elt F) Λ₀ (.scVector c j)) α)
      = .op (.assume (k0_chk1 (rowW t) (colW lanes k)) (k0_chk1.dec _ _)) fun hw =>
          SparseCore.vectorLoadIdx a4 ![rowW t, colW lanes k] hw.down (View.loads_vmem h_S32x1024) >>= fun v =>
          .op (.load a8 (Rect.unit (s := S16x256) (offT t k) S1x16.size (offT_inb t k)).toLoadRect (View.loadsAt_vmem h_S1x16)) fun _ =>
          .op (.store a8 (Rect.unit (s := S16x256) (offT t k) S1x16.size (offT_inb t k)) (shapeCast S1x16 v shapeCasts_S16_S1x16) Finset.univ
            (View.stores_vmem_bits_univ h_S1x16 rfl) (.inl rfl)) kk := rfl
  rw [e]
  iintro ⟨HR, Hf⟩ Hk
  iapply (wp_assume (defs := defs₀ (F := F)) 𝒱₀ (V d c j) none Set.univ (chk_col t k))
  iapply (wp_loadIdx (d := d) (c := c) (j := j)) $$ HR
  iintro HR
  iapply (wp_loadPart (d := d) (c := c) (j := j)) $$ Hf
  iintro %v Hf
  iapply (wp_storePart (d := d) (c := c) (j := j) (g' := putChunk R t f k) ?_ ?_) $$ Hf
  · intro x
    have h0 : ((Rect.unit (s := S16x256) (offT t k) S1x16.size (offT_inb t k)).emb x 0).val = t.val + (x 0).val := by
      rw [Rect.emb_apply]; simp only [Rect.off_unit, Rect.stride_unit, offT_eq]; simp
    have h1 : ((Rect.unit (s := S16x256) (offT t k) S1x16.size (offT_inb t k)).emb x 1).val = 16 * k.val + (x 1).val := by
      rw [Rect.emb_apply]; simp only [Rect.off_unit, Rect.stride_unit, offT_eq]; simp
    have hx0 : (x 0).val = 0 := by have := (x 0).isLt; change _ < 1 at this; omega
    have hx1 : (x 1).val < 16 := (x 1).isLt
    unfold putChunk
    rw [if_pos (by rw [h0, h1]; omega)]
    rw [show (shapeCast S1x16 (loadIdx R ![rowW t, colW lanes k] (chk_col t k)) shapeCasts_S16_S1x16 : Vec F S1x16 .f32) x
      = loadIdx R ![rowW t, colW lanes k] (chk_col t k) (ix1 ⟨(x 1).val, hx1⟩) from
        (shapeCast_addUnit_apply (![16]) _ _ x).trans (congrArg _ (eq_ix1 _))]
    unfold loadIdx
    refine congrArg R (idx_eq ?_ ?_).symm
    · exact (rowW_toNat t _)
    · refine (colW_toNat k _).trans ?_
      rw [h1]; show 64 * k.val + 2 * (x 1).val = _; omega
  · intro y hy
    unfold putChunk
    refine if_neg fun h => hy (Rect.mem_set_unit.mpr ?_)
    rw [offT_eq]
    intro a
    match a with
    | 0 => show t.val ≤ (y 0).val ∧ (y 0).val < t.val + 1; omega
    | 1 => show 16 * k.val ≤ (y 1).val ∧ (y 1).val < 16 * k.val + 16; omega
  iintro Hf
  iapply Hk
  isplitl [HR]; · iexact HR
  iexact Hf

theorem wp_chunks (t : Fin 16) (R : Vec F S32x1024 .f32) {α : Type} {kk : PUnit → Prog (TpuEff nD τ sig (Elt F) Λ₀ (.scVector c j)) α} {Q : α → sProp 𝕄} :
    ∀ (ks : List (Fin 16)) (f : Vec F S16x256 .f32),
    iprop(bufAt (V d c j) a4 R ∗ bufAt (V d c j) a8 f)
      ⊢ iprop((bufAt (V d c j) a4 R ∗ bufAt (V d c j) a8 (ks.foldl (putChunk R t) f) -∗ wpV d c j (kk ⟨⟩) Q)
        -∗ wpV d c j (chunksProg a4 a8 lanes t ks >>= kk) Q)
  | [], f => by
    iintro H Hk
    iapply Hk; iexact H
  | k :: ks, f => by
    rw [show (chunksProg a4 a8 lanes t (k :: ks) >>= kk : Prog (TpuEff nD τ sig (Elt F) Λ₀ (.scVector c j)) α)
      = chunkProg a4 a8 lanes t k >>= fun _ => chunksProg a4 a8 lanes t ks >>= kk from bind_assoc _ _ _]
    iintro H Hk
    iapply (wp_chunk (d := d) (c := c) (j := j) t k R f) $$ H
    iintro H
    iapply (wp_chunks t R ks _) $$ H
    iexact Hk

theorem chk_diag (t : Fin 16) : k0_chk17 (rowW1 t) (diagW lanes t) := by
  intro a x
  rw [eq_ix1 x]
  match a with
  | 0 => exact (rowW1_toNat t (x 0)).trans_lt (show _ < 32 by omega)
  | 1 => exact (diagW_toNat t (x 0)).trans_lt (show _ < 1024 by have := (x 0).isLt; change _ < 16 at this; omega)

theorem chk_diagO (t : Fin 16) : k0_chk18 (broadcast S16 (ivT t)) (diagO lanes t) := by
  intro a x
  rw [eq_ix1 x]
  match a with
  | 0 => exact (ivT_toNat t).trans_lt (show _ < 16 from t.isLt)
  | 1 => exact (diagO_toNat t (x 0)).trans_lt (show _ < 256 by have := (x 0).isLt; change _ < 16 at this; omega)

theorem chk_own (g : Fin 256) (t : Fin 16) : k0_chk19 (rowW t) (ownW lanes (gW g)) := by
  intro a x
  rw [eq_ix1 x]
  match a with
  | 0 => exact (rowW_toNat t (x 0)).trans_lt (show _ < 32 by omega)
  | 1 => exact (ownW_toNat g (x 0)).trans_lt (show _ < 128 by
      have := (x 0).isLt; change _ < 16 at this; rcases offOf_eq g with h | h <;> rw [h] <;> omega)

theorem chk_ownD (g : Fin 256) (t : Fin 16) : k0_chk20 (rowW1 t) (ownD (gW g) t) := by
  intro a x
  rw [eq_ix1 x]
  match a with
  | 0 => exact (rowW1_toNat t (x 0)).trans_lt (show _ < 32 by omega)
  | 1 => exact (ownD_toNat g t (x 0)).trans_lt (show _ < 128 by
      have := (x 0).isLt; change _ < 16 at this; rcases offOf_eq g with h | h <;> rw [h] <;> omega)

theorem chk_ownO (g : Fin 256) (t : Fin 16) : k0_chk21 (broadcast S16 (ivT t)) (ownO lanes (gW g)) := by
  intro a x
  rw [eq_ix1 x]
  match a with
  | 0 => exact (ivT_toNat t).trans_lt (show _ < 16 from t.isLt)
  | 1 => exact (ownO_toNat g (x 0)).trans_lt (show _ < 256 by have := (x 0).isLt; change _ < 16 at this; unfold rowOf; omega)

/-- The output buffer after row `t`'s chunks and first scatter-add. -/
def withDiag (R : Vec F S32x1024 .f32) (t : Fin 16) (f : Vec F S16x256 .f32) : Vec F S16x256 .f32 :=
  storeIdx f ![broadcast S16 (ivT t), diagO lanes t] (loadIdx R ![rowW1 t, diagW lanes t] (chk_diag t)) (fun _ => 1#1) true (chk_diagO t)

/-- And after the second. -/
def withOwn (C : Vec F S32x128 .f32) (g : Fin 256) (t : Fin 16) (f : Vec F S16x256 .f32) : Vec F S16x256 .f32 :=
  storeIdx f ![broadcast S16 (ivT t), ownO lanes (gW g)]
    (ownV lanes t (loadIdx C ![rowW t, ownW lanes (gW g)] (chk_own g t)) (loadIdx C ![rowW1 t, ownD (gW g) t] (chk_ownD g t))) (fun _ => 1#1) true (chk_ownO g t)

theorem withDiag_apply (R : Vec F S32x1024 .f32) (t : Fin 16) (f : Vec F S16x256 .f32) (y : S16x256.Idx) :
    withDiag R t f y = if (y 0).val = t.val ∧ (y 1).val % 16 = t.val then
        Elt.idxAdd (F := F) .f32 (f y) (rdR R (2 * t + 1) (64 * ((y 1).val / 16) + 2 * t + 1)) else f y := by
  have hy1 : (y 1).val < 256 := (y 1).isLt
  unfold withDiag
  split_ifs with h
  · refine (scatter_hit (n := 16) f _ _ _ y ⟨(y 1).val / 16, by omega⟩ ?_ ?_).trans ?_
    rotate_left 2
    · refine congrArg _ ?_
      unfold loadIdx
      exact congrArg R (idx_eq (rowW1_toNat t _) (diagW_toNat t _))
    · intro a
      match a with
      | 0 => exact h.1.trans (ivT_toNat t).symm
      | 1 => refine Eq.trans ?_ (diagO_toNat t _).symm; show (y 1).val = 16 * ((y 1).val / 16) + t.val; omega
    · intro x hx
      have := hx 1
      have h2 : 16 * x.val + t.val = 16 * ((y 1).val / 16) + t.val := (diagO_toNat t x).symm.trans (this.trans (diagO_toNat t _))
      exact Fin.ext (show x.val = (y 1).val / 16 by omega)
  · refine scatter_miss (n := 16) f _ _ _ y fun x => ?_
    by_cases h0 : (y 0).val = t.val
    · refine ⟨1, fun e => h ⟨h0, ?_⟩⟩
      have : (y 1).val = 16 * (x 0).val + t.val := e.trans ((congrArg (fun z => (diagO lanes t z).toNat) (eq_ix1 x)).trans (diagO_toNat t (x 0)))
      omega
    · exact ⟨0, fun e => h0 (e.trans (ivT_toNat t))⟩

theorem withOwn_apply (C : Vec F S32x128 .f32) (g : Fin 256) (t : Fin 16) (f : Vec F S16x256 .f32) (y : S16x256.Idx) :
    withOwn C g t f y = if (y 0).val = t.val ∧ (y 1).val / 16 = rowOf g then
        Elt.idxAdd (F := F) .f32 (f y) (FloatOps.addf (rdC C (2 * t) (offOf g + 2 * ((y 1).val % 16)))
          (if (y 1).val % 16 = t.val then rdC C (2 * t + 1) (offOf g + 2 * t + 1) else Scalar.ofBits (F := F) .f32 0x00000000#32)) else f y := by
  have hy1 : (y 1).val < 256 := (y 1).isLt
  unfold withOwn
  split_ifs with h h'
  · refine (scatter_hit (n := 16) f _ _ _ y ⟨(y 1).val % 16, by omega⟩ ?_ ?_).trans ?_
    rotate_left 2
    · refine congrArg _ ?_
      show FloatOps.addf (C _) (Scalar.select (cmpi .eq lanes (broadcast S16 (ivT t)) _) (C _) _) = _
      rw [(lane_eq t _).mpr (Fin.ext h')]
      exact congrArg₂ _ (congrArg C (idx_eq (rowW_toNat t _) (ownW_toNat g _))) (congrArg C (idx_eq (rowW1_toNat t _) (ownD_toNat g t _)))
    · intro a
      match a with
      | 0 => exact h.1.trans (ivT_toNat t).symm
      | 1 => refine Eq.trans ?_ (ownO_toNat g _).symm; show (y 1).val = 16 * rowOf g + (y 1).val % 16; omega
    · intro x hx
      have := hx 1
      have h2 : 16 * rowOf g + x.val = 16 * rowOf g + (y 1).val % 16 := (ownO_toNat g x).symm.trans (this.trans (ownO_toNat g _))
      exact Fin.ext (show x.val = (y 1).val % 16 by omega)
  · refine (scatter_hit (n := 16) f _ _ _ y ⟨(y 1).val % 16, by omega⟩ ?_ ?_).trans ?_
    rotate_left 2
    · refine congrArg _ ?_
      show FloatOps.addf (C _) (Scalar.select (cmpi .eq lanes (broadcast S16 (ivT t)) _) (C _) _) = _
      have hn : cmpi .eq lanes (broadcast S16 (ivT t)) (ix1 ⟨(y 1).val % 16, by omega⟩) = 0#1 :=
        (BitVec.eq_zero_or_eq_one _).resolve_right fun e => h' (congrArg Fin.val ((lane_eq t _).mp e))
      rw [hn]
      exact congrArg₂ _ (congrArg C (idx_eq (rowW_toNat t _) (ownW_toNat g _))) rfl
    · intro a
      match a with
      | 0 => exact h.1.trans (ivT_toNat t).symm
      | 1 => refine Eq.trans ?_ (ownO_toNat g _).symm; show (y 1).val = 16 * rowOf g + (y 1).val % 16; omega
    · intro x hx
      have := hx 1
      have h2 : 16 * rowOf g + x.val = 16 * rowOf g + (y 1).val % 16 := (ownO_toNat g x).symm.trans (this.trans (ownO_toNat g _))
      exact Fin.ext (show x.val = (y 1).val % 16 by omega)
  · refine scatter_miss (n := 16) f _ _ _ y fun x => ?_
    by_cases h0 : (y 0).val = t.val
    · refine ⟨1, fun e => h ⟨h0, ?_⟩⟩
      have : (y 1).val = 16 * rowOf g + (x 0).val := e.trans ((congrArg (fun z => (ownO lanes (gW g) z).toNat) (eq_ix1 x)).trans (ownO_toNat g (x 0)))
      have hx : (x 0).val < 16 := (x 0).isLt
      omega
    · exact ⟨0, fun e => h0 (e.trans (ivT_toNat t))⟩

/-- One row's run takes the buffer after `t` rows to the buffer after `t + 1`. -/
theorem row_value (R : Vec F S32x1024 .f32) (C : Vec F S32x128 .f32) (g : Fin 256) (t : Fin 16) (f : Vec F S16x256 .f32) :
    withOwn C g t (withDiag R t ([0, 1, 2, 3, 4, 5, 6, 7, 8, 9, 10, 11, 12, 13, 14, 15].foldl (putChunk R t) (blkN t g R C f))) = blkN (t + 1) g R C f := by
  funext y
  have hy1 : (y 1).val < 256 := (y 1).isLt
  have hk : ∃ k ∈ ([0, 1, 2, 3, 4, 5, 6, 7, 8, 9, 10, 11, 12, 13, 14, 15] : List (Fin 16)), (y 1).val / 16 = k.val :=
    ⟨⟨(y 1).val / 16, by omega⟩, (by decide : ∀ k : Fin 16, k ∈ ([0, 1, 2, 3, 4, 5, 6, 7, 8, 9, 10, 11, 12, 13, 14, 15] : List (Fin 16))) _, rfl⟩
  rw [withOwn_apply, withDiag_apply, putChunks]
  unfold blkN
  by_cases h0 : (y 0).val = t.val
  · rw [if_pos (show (y 0).val < t.val + 1 by omega)]
    unfold outBlk
    simp only [h0, _root_.true_and]
    rw [if_pos hk]
  · have h1 : ((y 0).val < t.val + 1) = ((y 0).val < t.val) := propext (by constructor <;> omega)
    simp only [h0, _root_.false_and, if_false, h1]

theorem wp_row (g : Fin 256) (t : Fin 16) (R : Vec F S32x1024 .f32) (C : Vec F S32x128 .f32) (f : Vec F S16x256 .f32) {Q : Unit → sProp 𝕄} :
    iprop(bufAt (V d c j) a4 R ∗ bufAt (V d c j) a6 C ∗ bufAt (V d c j) a8 (blkN t g R C f))
      ⊢ iprop((bufAt (V d c j) a4 R ∗ bufAt (V d c j) a6 C ∗ bufAt (V d c j) a8 (blkN (t + 1) g R C f) -∗ Q ())
        -∗ wpV d c j (rowProg a4 a6 a8 lanes (gW g) t) Q) := by
  have e : (tailProg a4 a6 a8 lanes (gW g) t : Prog (TpuEff nD τ sig (Elt F) Λ₀ (.scVector c j)) Unit)
      = .op (.assume (k0_chk17 (rowW1 t) (diagW lanes t)) (k0_chk17.dec _ _)) fun hw =>
        SparseCore.vectorLoadIdx a4 ![rowW1 t, diagW lanes t] hw.down (View.loads_vmem h_S32x1024) >>= fun bv =>
        .op (.assume (k0_chk18 (broadcast S16 (ivT t)) (diagO lanes t)) (k0_chk18.dec _ _)) fun hw =>
        SparseCore.vectorStoreIdx a8 ![broadcast S16 (ivT t), diagO lanes t] bv (fun _ => 1#1) true hw.down (View.stores_vmem_bits_univ h_S16x256 rfl) >>= fun _ =>
        .op (.assume (k0_chk19 (rowW t) (ownW lanes (gW g))) (k0_chk19.dec _ _)) fun hw =>
        SparseCore.vectorLoadIdx a6 ![rowW t, ownW lanes (gW g)] hw.down (View.loads_vmem h_S32x128) >>= fun cv =>
        .op (.assume (k0_chk20 (rowW1 t) (ownD (gW g) t)) (k0_chk20.dec _ _)) fun hw =>
        SparseCore.vectorLoadIdx a6 ![rowW1 t, ownD (gW g) t] hw.down (View.loads_vmem h_S32x128) >>= fun dv =>
        .op (.assume (k0_chk21 (broadcast S16 (ivT t)) (ownO lanes (gW g))) (k0_chk21.dec _ _)) fun hw =>
        SparseCore.vectorStoreIdx a8 ![broadcast S16 (ivT t), ownO lanes (gW g)] (ownV lanes t cv dv) (fun _ => 1#1) true hw.down
          (View.stores_vmem_bits_univ h_S16x256 rfl) >>= fun _ => .ret () := rfl
  unfold rowProg
  rw [e]
  iintro ⟨HR, HC, Hf⟩ Hk
  iapply (wp_chunks (d := d) (c := c) (j := j) t R [0, 1, 2, 3, 4, 5, 6, 7, 8, 9, 10, 11, 12, 13, 14, 15] (blkN t g R C f)) $$ [HR Hf]
  · isplitl [HR]; · iexact HR
    iexact Hf
  iintro ⟨HR, Hf⟩
  iapply (wp_assume (defs := defs₀ (F := F)) 𝒱₀ (V d c j) none Set.univ (chk_diag t))
  iapply (wp_loadIdx (d := d) (c := c) (j := j)) $$ HR
  iintro HR
  iapply (wp_assume (defs := defs₀ (F := F)) 𝒱₀ (V d c j) none Set.univ (chk_diagO t))
  iapply (wp_storeIdx (d := d) (c := c) (j := j)) $$ Hf
  iintro Hf
  iapply (wp_assume (defs := defs₀ (F := F)) 𝒱₀ (V d c j) none Set.univ (chk_own g t))
  iapply (wp_loadIdx (d := d) (c := c) (j := j)) $$ HC
  iintro HC
  iapply (wp_assume (defs := defs₀ (F := F)) 𝒱₀ (V d c j) none Set.univ (chk_ownD g t))
  iapply (wp_loadIdx (d := d) (c := c) (j := j)) $$ HC
  iintro HC
  iapply (wp_assume (defs := defs₀ (F := F)) 𝒱₀ (V d c j) none Set.univ (chk_ownO g t))
  iapply (wp_storeIdx (d := d) (c := c) (j := j)) $$ Hf
  iintro Hf
  rw [wpV, wp_ret]
  imodintro
  iapply Hk
  isplitl [HR]; · iexact HR
  isplitl [HC]; · iexact HC
  rw [← row_value R C g t f]
  unfold withOwn withDiag
  iexact Hf

/-- The row loop. -/
def rowsProg (a4 : Memref sig .scVector .vmem S32x1024 .f32) (a6 : Memref sig .scVector .vmem S32x128 .f32) (a8 : Memref sig .scVector .vmem S16x256 .f32)
    (v3 : IVec S16 32) (g : BitVec 32) : Prog (TpuEff nD τ sig (Elt F) Λ₀ (.scVector c j)) Unit :=
  Scf.Loop.for k0_t1_loop k0_t1_ok ⟨⟩ fun t _ => rowProg a4 a6 a8 v3 g t

theorem wp_rows (g : Fin 256) (R : Vec F S32x1024 .f32) (C : Vec F S32x128 .f32) (f : Vec F S16x256 .f32)
    {α : Type} {kk : Unit → Prog (TpuEff nD τ sig (Elt F) Λ₀ (.scVector c j)) α} {Q : α → sProp 𝕄} :
    iprop(bufAt (V d c j) a4 R ∗ bufAt (V d c j) a6 C ∗ bufAt (V d c j) a8 f)
      ⊢ iprop((bufAt (V d c j) a4 R ∗ bufAt (V d c j) a6 C ∗ bufAt (V d c j) a8 (outBlk g R C) -∗ wpV d c j (kk ()) Q)
        -∗ wpV d c j (rowsProg a4 a6 a8 lanes (gW g) >>= kk) Q) := by
  iintro ⟨HR, HC, Hf⟩ Hk
  unfold rowsProg
  iapply (Scf.wp_for_bind frame (wpE (defs₀ (F := F)) 𝒱₀ (V d c j) none) Set.univ _ _ _ k0_t1_ok ⟨⟩ (fun t _ => rowProg a4 a6 a8 lanes (gW g) t)
    (fun n _ => iprop(bufAt (V d c j) a4 R ∗ bufAt (V d c j) a6 C ∗ bufAt (V d c j) a8 (blkN n g R C f))) ?_) $$ [HR HC Hf]
  · intro t _
    iintro H
    iapply (wp_row (d := d) (c := c) (j := j) g t R C f) $$ H
    iintro H; iexact H
  · isplitl [HR]; · iexact HR
    isplitl [HC]; · iexact HC
    rw [blkN_zero]; iexact Hf
  iintro %acc ⟨HR, HC, Hf⟩
  iapply Hk
  isplitl [HR]; · iexact HR
  isplitl [HC]; · iexact HC
  rw [← blkN_all g R C f, show (16 : ℕ) = Scf.trips k0_t1_loop.lb k0_t1_loop.ub k0_t1_loop.st by decide +kernel]
  iexact Hf

end Run

section Bodies

variable [FloatOps F]
variable (i : grid0.Coords) (arg2 : Memref sig .scVector .hbm S16x1024x1024 .f32) (harg2 : arg2.IsWhole) (arg3 : Memref sig .scVector .hbm S16x256x256 .f32) (harg3 : arg3.IsWhole)
  (arg4 : Memref sig .scVector .vmem S32x1024 .f32) (harg4 : arg4.IsWhole) (arg5 : Memref sig .scVector .vmem S32x1024 .f32) (harg5 : arg5.IsWhole)
  (arg6 : Memref sig .scVector .vmem S32x128 .f32) (harg6 : arg6.IsWhole) (arg7 : Memref sig .scVector .vmem S32x128 .f32) (harg7 : arg7.IsWhole)
  (arg8 : Memref sig .scVector .vmem S16x256 .f32) (harg8 : arg8.IsWhole) (arg9 : Memref sig .scVector .vmem S16x256 .f32) (harg9 : arg9.IsWhole)
  (arg10 arg11 arg12 arg13 arg14 arg15 : DmaSems sig S_) (v3 : IVec S16 32)

set_option maxRecDepth 65536 in
theorem t1_body_eq (g : BitVec 32) (t : Fin 16) :
    k0_t1_body (F := F) i arg2 harg2 arg3 harg3 arg4 harg4 arg5 harg5 arg6 harg6 arg7 harg7 arg8 harg8 arg9 harg9 arg10 arg11 arg12 arg13 arg14 arg15 v3 g (offW g) t ()
      = rowProg arg4 arg6 arg8 v3 g t := rfl

set_option maxRecDepth 65536 in
theorem t2_body_eq (v2 g : BitVec 32) (t : Fin 16) :
    k0_t2_body (F := F) i arg2 harg2 arg3 harg3 arg4 harg4 arg5 harg5 arg6 harg6 arg7 harg7 arg8 harg8 arg9 harg9 arg10 arg11 arg12 arg13 arg14 arg15 v3 g (offW g) t ()
      = rowProg arg5 arg7 arg9 v3 g t := rfl

end Bodies

end Cert.Proof.Pool
-- ==== Proof.Body.lean ====
/-
  The tile's program in the certificate's words: waits and copies of one side of the double buffer, the row loop between them, and
  the theorem that the printed body is that program.
-/
module

public import proofs.«01_k».proof.Proof.Row

@[expose] public section

noncomputable section

namespace Cert.Proof.Pool

open Cert.KernelIdeal Cert.KernelIdeal.Gen

open Idealize.ShloMosaic
open Idealize.ShloMosaic.SparseCore (S V T)
open Idealize.SL Idealize.SL.Sem

variable {F : FTy → Type} [FloatOps F] {c : Fin τ.nSC} {j : Fin τ.nSub}

/-- One side of the double buffer: the row block's buffer, the column block's, the output block's, and their semaphores. -/
structure Side where
  rb : Memref sig .scVector .vmem S32x1024 .f32
  hrb : rb.IsWhole
  cb : Memref sig .scVector .vmem S32x128 .f32
  hcb : cb.IsWhole
  ob : Memref sig .scVector .vmem S16x256 .f32
  hob : ob.IsWhole
  sr : DmaSems sig S_
  sc : DmaSems sig S_
  so : DmaSems sig S_

/-- The type of a tile's program. -/
abbrev TP (F : FTy → Type) (c : Fin τ.nSC) (j : Fin τ.nSub) : Type 1 := Prog (TpuEff nD τ sig (Elt F) Λ₀ (.scVector c j)) PUnit

variable (A : Memref sig .scVector .hbm S16x1024x1024 .f32) (O : Memref sig .scVector .hbm S16x256x256 .f32) (B : Side)

/-- The block of rows at `o`. -/
abbrev rowsAt (o : Fin 3 → ℕ) (h : ∀ a, o a + S1x32x1024.size a ≤ S16x1024x1024.size a) : Memref sig .scVector .hbm S32x1024 .f32 :=
  (A.slice (Rect.unit (s := S16x1024x1024) o S1x32x1024.size h) (fun _ => rfl)).squeeze S32x1024 squeezes_S1x32x1024_S32x1024
/-- The block of columns at `o`. -/
abbrev colsAt (o : Fin 3 → ℕ) (h : ∀ a, o a + S1x32x128.size a ≤ S16x1024x1024.size a) : Memref sig .scVector .hbm S32x128 .f32 :=
  (A.slice (Rect.unit (s := S16x1024x1024) o S1x32x128.size h) (fun _ => rfl)).squeeze S32x128 squeezes_S1x32x128_S32x128
/-- The block of the result at `o`. -/
abbrev outAt (o : Fin 3 → ℕ) (h : ∀ a, o a + S1x16x256.size a ≤ S16x256x256.size a) : Memref sig .scVector .hbm S16x256 .f32 :=
  (O.slice (Rect.unit (s := S16x256x256) o S1x16x256.size h) (fun _ => rfl)).squeeze S16x256 squeezes_S1x16x256_S16x256

def issR (o : Fin 3 → ℕ) (h : ∀ a, o a + S1x32x1024.size a ≤ S16x1024x1024.size a) : TP F c j :=
  Prog.lift (.enqueueDma (rowsAt A o h) (.here B.rb) (.dma B.sr.sem) ((View.wordExact_bits rfl).reshape _ _) B.hrb.wordExact ⟨Or.inl rfl, trivial⟩)
def issC (o : Fin 3 → ℕ) (h : ∀ a, o a + S1x32x128.size a ≤ S16x1024x1024.size a) : TP F c j :=
  Prog.lift (.enqueueDma (colsAt A o h) (.here B.cb) (.dma B.sc.sem) ((View.wordExact_bits rfl).reshape _ _) B.hcb.wordExact ⟨Or.inl rfl, trivial⟩)
def issO (o : Fin 3 → ℕ) (h : ∀ a, o a + S1x16x256.size a ≤ S16x256x256.size a) : TP F c j :=
  Prog.lift (.enqueueDma B.ob (.here (outAt O o h)) (.dma B.so.sem) B.hob.wordExact ((View.wordExact_bits rfl).reshape _ _) ⟨Or.inl rfl, trivial⟩)
def getR : TP F c j :=
  Prog.lift (.waitDma2 B.sr.sem (rowsAt A ![0, 0, 0] inb_S16x1024x1024_S1x32x1024_0_0_0) B.rb ((View.wordExact_bits rfl).reshape _ _) B.hrb.wordExact)
def getC : TP F c j :=
  Prog.lift (.waitDma2 B.sc.sem (colsAt A ![0, 0, 0] inb_S16x1024x1024_S1x32x128_0_0_0) B.cb ((View.wordExact_bits rfl).reshape _ _) B.hcb.wordExact)
def putW : TP F c j :=
  Prog.lift (.waitDma2 B.so.sem B.ob (outAt O ![0, 0, 0] inb_S16x256x256_S1x16x256_0_0_0) B.hob.wordExact ((View.wordExact_bits rfl).reshape _ _))
def work (v3 : IVec S16 32) (g : BitVec 32) : TP F c j := rowsProg B.rb B.cb B.ob v3 g

/-- The two words trip `t` of the pair loop works on, from the tile's first block `v2`. -/
abbrev pairW (v2 : BitVec 32) (t : ℕ) (p : BitVec 32) : BitVec 32 := Scalar.addi (Scalar.addi v2 (Scalar.muli 2#32 (Scf.iv 1#32 1#32 t))) p

variable (B₀ B₁ : Side) (i : grid0.Coords) (v2 : BitVec 32) (v3 : IVec S16 32)

/-- The first side's next copies, if the trip is not the last. -/
def next0 (t : Fin k0_t3_loop.trips) : TP F c j :=
  if h : k0_cond1 t = 1#1 then issR A B₀ (k0_off57 i t) (k0_off57_inb i t h) >>= fun _ => issC A B₀ (k0_off58 i t) (k0_off58_inb i t h)
  else pure ⟨⟩
/-- The second side's. -/
def next1 (t : Fin k0_t3_loop.trips) : TP F c j :=
  if h : k0_cond2 t = 1#1 then issR A B₁ (k0_off75 i t) (k0_off75_inb i t h) >>= fun _ => issC A B₁ (k0_off76 i t) (k0_off76_inb i t h)
  else pure ⟨⟩

/-- One trip of the pair loop. -/
def trip (t : Fin k0_t3_loop.trips) : TP F c j :=
  getR A B₀ >>= fun _ => getC A B₀ >>= fun _ => putW O B₀ >>= fun _ =>
  work B₀ v3 (pairW v2 t 0#32) >>= fun _ =>
  issO O B₀ (k0_off56 i t 0#32) (k0_off56_inb i t 0) >>= fun _ =>
  next0 A B₀ i t >>= fun _ =>
  getR A B₁ >>= fun _ => getC A B₁ >>= fun _ => putW O B₁ >>= fun _ =>
  work B₁ v3 (pairW v2 t 1#32) >>= fun _ =>
  issO O B₁ (k0_off56 i t 1#32) (k0_off56_inb i t 1) >>= fun _ =>
  next1 A B₁ i t

/-- The tile's whole program. -/
def tile : TP F c j :=
  issR A B₀ (k0_off1 i) (k0_off1_inb i) >>= fun _ => issC A B₀ (k0_off2 i) (k0_off2_inb i) >>= fun _ =>
  issR A B₁ (k0_off3 i) (k0_off3_inb i) >>= fun _ => issC A B₁ (k0_off4 i) (k0_off4_inb i) >>= fun _ =>
  getR A B₀ >>= fun _ => getC A B₀ >>= fun _ =>
  work B₀ v3 (Scalar.addi v2 0#32) >>= fun _ =>
  issO O B₀ (k0_off21 i 0#32) (k0_off21_inb i 0) >>= fun _ =>
  issR A B₀ (k0_off22 i 0#32) (k0_off22_inb i 0) >>= fun _ => issC A B₀ (k0_off23 i 0#32) (k0_off23_inb i 0) >>= fun _ =>
  getR A B₁ >>= fun _ => getC A B₁ >>= fun _ =>
  work B₁ v3 (Scalar.addi v2 1#32) >>= fun _ =>
  issO O B₁ (k0_off21 i 1#32) (k0_off21_inb i 1) >>= fun _ =>
  issR A B₁ (k0_off22 i 1#32) (k0_off22_inb i 1) >>= fun _ => issC A B₁ (k0_off23 i 1#32) (k0_off23_inb i 1) >>= fun _ =>
  Scf.Loop.for k0_t3_loop k0_t3_ok ⟨⟩ (fun t _ => trip A O B₀ B₁ i v2 v3 t) >>= fun _ =>
  putW O B₀ >>= fun _ => putW O B₁ >>= fun _ => pure ⟨⟩

/-- The tile's first block, as the body computes it. -/
abbrev firstW (i : grid0.Coords) : BitVec 32 :=
  Scalar.muli (Scalar.addi (Scalar.muli (BitVec.ofNat 32 (i 1).val) 2#32) (BitVec.ofNat 32 (i 0).val)) 8#32

section Eqs

variable (i : grid0.Coords) (arg2 : Memref sig .scVector .hbm S16x1024x1024 .f32) (harg2 : arg2.IsWhole) (arg3 : Memref sig .scVector .hbm S16x256x256 .f32) (harg3 : arg3.IsWhole)
  (arg4 : Memref sig .scVector .vmem S32x1024 .f32) (harg4 : arg4.IsWhole) (arg5 : Memref sig .scVector .vmem S32x1024 .f32) (harg5 : arg5.IsWhole)
  (arg6 : Memref sig .scVector .vmem S32x128 .f32) (harg6 : arg6.IsWhole) (arg7 : Memref sig .scVector .vmem S32x128 .f32) (harg7 : arg7.IsWhole)
  (arg8 : Memref sig .scVector .vmem S16x256 .f32) (harg8 : arg8.IsWhole) (arg9 : Memref sig .scVector .vmem S16x256 .f32) (harg9 : arg9.IsWhole)
  (arg10 arg11 arg12 arg13 arg14 arg15 : DmaSems sig S_) (v3 : IVec S16 32)

set_option maxRecDepth 65536 in
theorem t4_body_eq (v2 : BitVec 32) (t3 : Fin k0_t3_loop.trips) (a g : BitVec 32) (t : Fin 16) :
    k0_t4_body (F := F) i arg2 harg2 arg3 harg3 arg4 harg4 arg5 harg5 arg6 harg6 arg7 harg7 arg8 harg8 arg9 harg9 arg10 arg11 arg12 arg13 arg14 arg15 v2 v3 t3 a g
      (Scalar.muli 16#32 (Scalar.andi g 15#32)) (Scalar.select (Scalar.cmpi .eq 128#32 0#32) 1#32 128#32)
      (Scalar.remsi (Scalar.addi (Scalar.muli 64#32 (Scalar.andi g 15#32)) 32#32) (Scalar.select (Scalar.cmpi .eq 128#32 0#32) 1#32 128#32))
      (Scalar.andi (Scalar.xori (Scalar.cmpi .slt (Scalar.remsi (Scalar.addi (Scalar.muli 64#32 (Scalar.andi g 15#32)) 32#32) (Scalar.select (Scalar.cmpi .eq 128#32 0#32) 1#32 128#32)) 0#32)
        (Scalar.cmpi .slt (Scalar.select (Scalar.cmpi .eq 128#32 0#32) 1#32 128#32) 0#32))
        (Scalar.cmpi .ne (Scalar.remsi (Scalar.addi (Scalar.muli 64#32 (Scalar.andi g 15#32)) 32#32) (Scalar.select (Scalar.cmpi .eq 128#32 0#32) 1#32 128#32)) 0#32))
      (offW g) t ()
      = rowProg arg4 arg6 arg8 v3 g t := rfl

set_option maxRecDepth 65536 in
theorem t5_body_eq (g : BitVec 32) (t : Fin 16) :
    k0_t5_body (F := F) i arg2 harg2 arg3 harg3 arg4 harg4 arg5 harg5 arg6 harg6 arg7 harg7 arg8 harg8 arg9 harg9 arg10 arg11 arg12 arg13 arg14 arg15 v3 g 15#32 (offW g) t ()
      = rowProg arg5 arg7 arg9 v3 g t := rfl

set_option maxRecDepth 65536 in
theorem t3_body_eq (v2 : BitVec 32) (t : Fin k0_t3_loop.trips) :
    k0_t3_body (F := F) i arg2 harg2 arg3 harg3 arg4 harg4 arg5 harg5 arg6 harg6 arg7 harg7 arg8 harg8 arg9 harg9 arg10 arg11 arg12 arg13 arg14 arg15 v2 v3 t ()
      = trip arg2 arg3 ⟨arg4, harg4, arg6, harg6, arg8, harg8, arg10, arg12, arg14⟩ ⟨arg5, harg5, arg7, harg7, arg9, harg9, arg11, arg13, arg15⟩ i v2 v3 t := by
  unfold k0_t3_body
  rw [k0_part17_eq_skeleton, k0_part18_eq_skeleton]
  unfold k0_part17_skel k0_part18_skel trip next0
  by_cases h : k0_cond1 t = 1#1
  · simp only [dif_pos h, bind_assoc, pure_bind]
    rfl
  · simp only [dif_neg h, bind_assoc, pure_bind]
    rfl

set_option maxRecDepth 65536 in
theorem body_eq :
    cc0__qpool_sc_body (F := F) i arg2 harg2 arg3 harg3 arg4 harg4 arg5 harg5 arg6 harg6 arg7 harg7 arg8 harg8 arg9 harg9 arg10 arg11 arg12 arg13 arg14 arg15
      = tile arg2 arg3 ⟨arg4, harg4, arg6, harg6, arg8, harg8, arg10, arg12, arg14⟩ ⟨arg5, harg5, arg7, harg7, arg9, harg9, arg11, arg13, arg15⟩ i (firstW i) lanes := by
  have e : k0_t3_body (F := F) i arg2 harg2 arg3 harg3 arg4 harg4 arg5 harg5 arg6 harg6 arg7 harg7 arg8 harg8 arg9 harg9 arg10 arg11 arg12 arg13 arg14 arg15 (firstW i) lanes
      = fun t _ => trip arg2 arg3 ⟨arg4, harg4, arg6, harg6, arg8, harg8, arg10, arg12, arg14⟩ ⟨arg5, harg5, arg7, harg7, arg9, harg9, arg11, arg13, arg15⟩ i (firstW i) lanes t := by
    funext t u
    exact t3_body_eq i arg2 harg2 arg3 harg3 arg4 harg4 arg5 harg5 arg6 harg6 arg7 harg7 arg8 harg8 arg9 harg9 arg10 arg11 arg12 arg13 arg14 arg15 lanes (firstW i) t
  unfold tile
  rw [← e, cc0__qpool_sc_body_eq_skeleton]
  unfold cc0__qpool_sc_body_skel
  rw [k0_part24_eq_skeleton]
  unfold k0_part24_skel
  rw [k0_part21_eq_skeleton, k0_part23_eq_skeleton]
  unfold k0_part21_skel k0_part23_skel
  simp only [bind_assoc, pure_bind]
  rfl

end Eqs

end Cert.Proof.Pool
-- ==== Proof.Seg.lean ====
/-
  The tile's segments: each copy and wait over the buffers it moves, what a side of the double buffer holds between them, and the
  run of the whole tile from its share of the input and its eight blocks of the result.
-/
module

public import proofs.«01_k».proof.Proof.Body

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {d : Dev nD} {c : Fin τ.nSC} {j : Fin τ.nSub}

local notation "𝕄" => MT nD τ sig (HIx 1) (Elt F) ℕ UU ℕ

abbrev xV : Memref sig .scVector .hbm S16x1024x1024 .f32 := Memref.whole main_arg0_scv
abbrev oV : Memref sig .scVector .hbm S16x256x256 .f32 := Memref.whole main_v0_scv

/-! ## Where block `g`'s data lie -/

def offR (g : ℕ) : Fin 3 → ℕ := ![g / 16, 64 * rowOf g, 0]
def offC (g : ℕ) : Fin 3 → ℕ := ![g / 16, 64 * rowOf g + 32, (64 * rowOf g + 32) / 128 * 128]
def offO (g : ℕ) : Fin 3 → ℕ := ![g / 16, 16 * rowOf g, 0]

theorem offO_inb (g : Fin 256) : ∀ a, offO g a + S1x16x256.size a ≤ S16x256x256.size a := by revert g; decide +kernel

/-- The rows and columns of block `g`, read off the input. -/
def rowsOf (x : Vec F S16x1024x1024 .f32) (g : ℕ) : Vec F S32x1024 .f32 :=
  fun y => x (ix3 (Fin.ofNat 16 (g / 16)) (Fin.ofNat 1024 (64 * rowOf g + (y 0).val)) (Fin.ofNat 1024 (y 1).val))
def colsOf (x : Vec F S16x1024x1024 .f32) (g : ℕ) : Vec F S32x128 .f32 :=
  fun y => x (ix3 (Fin.ofNat 16 (g / 16)) (Fin.ofNat 1024 (64 * rowOf g + 32 + (y 0).val)) (Fin.ofNat 1024 ((64 * rowOf g + 32) / 128 * 128 + (y 1).val)))
/-- Block `g` of the result. -/
def outOf (x : Vec F S16x1024x1024 .f32) (g : ℕ) : Vec F S16x256 .f32 := outBlk g (rowsOf x g) (colsOf x g)

theorem idx3_eq {n₀ n₁ n₂ : ℕ} {u v : (⟨3, ![n₀, n₁, n₂]⟩ : Shape).Idx} (h0 : (u 0).val = (v 0).val) (h1 : (u 1).val = (v 1).val) (h2 : (u 2).val = (v 2).val) : u = v :=
  funext fun a => match a with | 0 => Fin.ext h0 | 1 => Fin.ext h1 | 2 => Fin.ext h2

theorem rows_read (x : Vec F S16x1024x1024 .f32) (g : Fin 256) (h : ∀ a, offR g a + S1x32x1024.size a ≤ S16x1024x1024.size a) :
    (rowsAt xV (offR g) h).view.read (Elt F) x = rowsOf x g := by
  funext y
  have h0 : (y 0).val < 32 := (y 0).isLt
  have h1 : (y 1).val < 1024 := (y 1).isLt
  have hg := g.isLt
  unfold rowsOf
  rw [Memref.read_squeeze_slice xV _ _ _ (show _ from squeezes_S1x32x1024_S32x1024.numel_eq)]
  refine (shapeCast_dropUnit_apply (![32, 1024]) _ _ y).trans ?_
  refine congrArg x (idx3_eq ?_ ?_ ?_)
  · show offR g 0 + 1 * 0 = (g.val / 16) % 16
    simp only [offR, Matrix.cons_val]; omega
  · show offR g 1 + 1 * (y 0).val = (64 * rowOf g + (y 0).val) % 1024
    simp only [offR, rowOf, Matrix.cons_val]; omega
  · show offR g 2 + 1 * (y 1).val = ((y 1).val) % 1024
    simp only [offR, Matrix.cons_val]; omega

theorem cols_read (x : Vec F S16x1024x1024 .f32) (g : Fin 256) (h : ∀ a, offC g a + S1x32x128.size a ≤ S16x1024x1024.size a) :
    (colsAt xV (offC g) h).view.read (Elt F) x = colsOf x g := by
  funext y
  have h0 : (y 0).val < 32 := (y 0).isLt
  have h1 : (y 1).val < 128 := (y 1).isLt
  have hg := g.isLt
  unfold colsOf
  rw [Memref.read_squeeze_slice xV _ _ _ (show _ from squeezes_S1x32x128_S32x128.numel_eq)]
  refine (shapeCast_dropUnit_apply (![32, 128]) _ _ y).trans ?_
  refine congrArg x (idx3_eq ?_ ?_ ?_)
  · show offC g 0 + 1 * 0 = (g.val / 16) % 16
    simp only [offC, Matrix.cons_val]; omega
  · show offC g 1 + 1 * (y 0).val = (64 * rowOf g + 32 + (y 0).val) % 1024
    simp only [offC, rowOf, Matrix.cons_val]; omega
  · show offC g 2 + 1 * (y 1).val = ((64 * rowOf g + 32) / 128 * 128 + (y 1).val) % 1024
    simp only [offC, rowOf, Matrix.cons_val]; omega

/-- Block `g` of the result array, as the tile addresses it. -/
abbrev outM (g : Fin 256) : Memref sig .scVector .hbm S16x256 .f32 := outAt oV (offO g) (offO_inb g)

/-! ## The copies and the waits -/

/-- The thread's pending count and what it has waited on: only its own copies beyond `W`. -/
def OW (thr : Thread nD τ) (O : CellTallies nD τ sig (HIx 1)) (W : Waits sig (HIx 1)) : sProp 𝕄 :=
  iprop(Transfers.MayWaits thr (default : HIx 1) O ∗ ∃ W', ⌜∀ p ∈ W', p ∈ W ∨ p.2 = none⌝ ∗ owes thr O W')

/-- A share of the whole input. -/
abbrev xPt (thr : Thread nD τ) (q : PosShare TreeShare) (ℓ : Loc nD τ sig) (x : Buf (Elt F) ℓ) : sProp 𝕄 := ℓ ↦{q} x

theorem wp_fetch {s : Shape} (src : Memref sig .scVector .hbm s .f32) (dst : Memref sig .scVector .vmem s .f32) (sem : DmaSem sig)
    (h₁ : src.view.WordExact) (h₂ : dst.view.WordExact) (h₃ : DmaTarget.Typed (nD := nD) .hbm (.dma sem : SemLoc sig) (.here (p := Proc.scVector c j) dst)) (hs : 0 < s.numel)
    (q : PosShare TreeShare) (x : Buf (Elt F) (src.view.loc (V d c j))) (f₀ : Vec F s .f32) {α : Type} {kk : PUnit → Prog (TpuEff nD τ sig (Elt F) Λ₀ (.scVector c j)) α} {Q : α → sProp 𝕄} :
    iprop((src.view.loc (V d c j) ↦{q} x) ∗ bufAt (V d c j) dst f₀ ∗ semVal (V d c j, .dma sem) 0)
      ⊢ iprop((Transfers.Flight countersEmb (V d c j) (.dma sem) (default : HIx 1) dst.view.dmaCredit
            iprop((src.view.loc (V d c j) ↦{q} x) ∗ bufAt (V d c j) dst (src.view.read (Elt F) x)) -∗ wpV d c j (kk ⟨⟩) Q)
        -∗ wpV d c j (Prog.lift (.enqueueDma src (.here dst) (.dma sem) h₁ h₂ h₃) >>= kk) Q) := by
  unfold bufAt
  iintro ⟨Hx, ⟨%f, -, Hf⟩, Hv⟩ Hk
  ihave Hx := (pointsTo_split_subset (q := q) (f := x) (S := Finset.univ) (Finset.subset_univ src.view.set)).1 $$ Hx
  icases Hx with ⟨Hx, Hr⟩
  iapply (Transfers.wp_dmaLocal countersEmb 𝒱₀ (V d c j) none (default : HIx 1) dst.view.dmaCredit rfl (dst.view.dmaCredit_pos hs) (Finset.Subset.refl _)) $$ [Hx Hf Hv]
  · isplitl [Hx]; · iexact Hx
    isplitl [Hf]; · iexact Hf
    iexact Hv
  iintro Hfl
  iapply Hk
  ihave Hfl := (Transfers.Flight_frame countersEmb (V d c j)) $$ [Hr Hfl]
  · isplitl [Hr]; · iexact Hr
    iexact Hfl
  iapply (Transfers.Flight_mono countersEmb (V d c j) ?_) $$ Hfl
  iintro ⟨Hr, Hf, Hx⟩
  isplitl [Hr Hx]
  · iapply (pointsTo_split_subset (q := q) (f := x) (S := Finset.univ) (Finset.subset_univ src.view.set)).2
    isplitl [Hx]; · iexact Hx
    iexact Hr
  · iexists _
    isplitr
    swap; · iexact Hf
    ipureintro
    exact View.read_write_univ _ _

theorem wp_put {s : Shape} {sp sp' : Space} (src : Memref sig .scVector sp s .f32) (dst : Memref sig .scVector sp' s .f32) (sem : DmaSem sig)
    (h₁ : src.view.WordExact) (h₂ : dst.view.WordExact) (h₃ : DmaTarget.Typed (nD := nD) sp (.dma sem : SemLoc sig) (.here (p := Proc.scVector c j) dst)) (hs : 0 < s.numel)
    (g f₀ : Vec F s .f32) {α : Type} {kk : PUnit → Prog (TpuEff nD τ sig (Elt F) Λ₀ (.scVector c j)) α} {Q : α → sProp 𝕄} :
    iprop(bufAt (V d c j) src g ∗ bufAt (V d c j) dst f₀ ∗ semVal (V d c j, .dma sem) 0)
      ⊢ iprop((Transfers.Flight countersEmb (V d c j) (.dma sem) (default : HIx 1) dst.view.dmaCredit
            iprop(bufAt (V d c j) dst g ∗ bufAt (V d c j) src g) -∗ wpV d c j (kk ⟨⟩) Q)
        -∗ wpV d c j (Prog.lift (.enqueueDma src (.here dst) (.dma sem) h₁ h₂ h₃) >>= kk) Q) := by
  unfold bufAt
  iintro ⟨⟨%x, %hx, Hx⟩, ⟨%f, -, Hf⟩, Hv⟩ Hk
  iapply (Transfers.wp_dmaLocal countersEmb 𝒱₀ (V d c j) none (default : HIx 1) dst.view.dmaCredit rfl (dst.view.dmaCredit_pos hs) (Finset.Subset.refl _)) $$ [Hx Hf Hv]
  · isplitl [Hx]; · iexact Hx
    isplitl [Hf]; · iexact Hf
    iexact Hv
  iintro Hfl
  iapply Hk
  iapply (Transfers.Flight_mono countersEmb (V d c j) ?_) $$ Hfl
  iintro ⟨Hf, Hx⟩
  isplitl [Hf]
  · iexists _
    isplitr
    swap; · iexact Hf
    ipureintro
    exact (View.read_write_univ _ _).trans hx
  · iexists _
    isplitr
    swap; · iexact Hx
    ipureintro
    exact hx

theorem wp_await {s : Shape} {sp sp' : Space} (src : Memref sig .scVector sp s .f32) (dst : Memref sig .scVector sp' s .f32) (sem : DmaSem sig)
    (h₁ : src.view.WordExact) (h₂ : dst.view.WordExact) (N : ℕ) (hN : dst.view.dmaCredit = N) (D : sProp 𝕄) (O : CellTallies nD τ sig (HIx 1)) (W : Waits sig (HIx 1))
    {α : Type} {kk : PUnit → Prog (TpuEff nD τ sig (Elt F) Λ₀ (.scVector c j)) α} {Q : α → sProp 𝕄} :
    iprop(Transfers.Flight countersEmb (V d c j) (.dma sem) (default : HIx 1) N D ∗ OW (V d c j) O W)
      ⊢ iprop((D ∗ semVal (V d c j, .dma sem) 0 ∗ OW (V d c j) O W -∗ wpV d c j (kk ⟨⟩) Q)
        -∗ wpV d c j (Prog.lift (.waitDma2 sem src dst h₁ h₂) >>= kk) Q) := by
  unfold OW
  iintro ⟨Hfl, #Hmw, %W', %hW', HO⟩ Hk
  iapply (Transfers.wp_waitLocalO countersEmb 𝒱₀ (V d c j) none (default : HIx 1) hN) $$ [Hfl HO]
  · isplitl [Hfl]; · iexact Hfl
    isplitl [HO]; · iexact HO
    iapply (Transfers.MayWaits.elim (SemLoc.dma sem)) $$ Hmw
  iintro ⟨HD, Hv, HO⟩
  iapply Hk
  isplitl [HD]; · iexact HD
  isplitl [Hv]; · iexact Hv
  isplitr; · iexact Hmw
  iexists _; isplitr
  swap; · iexact HO
  ipureintro; intro p hp
  rcases Finset.mem_insert.mp hp with hp | hp; · exact .inr (hp ▸ rfl)
  exact hW' p hp

/-! ## What a side holds -/

section Sides

variable (x : Vec F S16x1024x1024 .f32) (B : Side)

/-- A share of the whole input, at what the launch found in it. -/
abbrev xSh (d : Dev nD) (c : Fin τ.nSC) (j : Fin τ.nSub) (q : PosShare TreeShare) : sProp 𝕄 := xV.view.loc (V d c j) ↦{q} x

/-- The shares of the input a side copies by, its two buffers at anything, its two semaphores down. -/
def Idle (d : Dev nD) (c : Fin τ.nSC) (j : Fin τ.nSub) (qr qc : PosShare TreeShare) : sProp 𝕄 :=
  iprop((xSh x d c j qr ∗ (∃ f, bufAt (V d c j) B.rb f) ∗ semVal (V d c j, .dma B.sr.sem) 0)
    ∗ (xSh x d c j qc ∗ (∃ f, bufAt (V d c j) B.cb f) ∗ semVal (V d c j, .dma B.sc.sem) 0))
/-- Block `g`'s two copies in flight. -/
def Coming (d : Dev nD) (c : Fin τ.nSC) (j : Fin τ.nSub) (qr qc : PosShare TreeShare) (g : Fin 256) : sProp 𝕄 :=
  iprop(Transfers.Flight countersEmb (V d c j) (.dma B.sr.sem) (default : HIx 1) B.rb.view.dmaCredit iprop(xSh x d c j qr ∗ bufAt (V d c j) B.rb (rowsOf x g))
    ∗ Transfers.Flight countersEmb (V d c j) (.dma B.sc.sem) (default : HIx 1) B.cb.view.dmaCredit iprop(xSh x d c j qc ∗ bufAt (V d c j) B.cb (colsOf x g)))
/-- The output buffer at anything, its semaphore down. -/
def Free (d : Dev nD) (c : Fin τ.nSC) (j : Fin τ.nSub) : sProp 𝕄 :=
  iprop((∃ f, bufAt (V d c j) B.ob f) ∗ semVal (V d c j, .dma B.so.sem) 0)
/-- Block `g` of the result, at anything and at its value. -/
def Any (d : Dev nD) (c : Fin τ.nSC) (j : Fin τ.nSub) (g : Fin 256) : sProp 𝕄 := iprop(∃ f, bufAt (F := F) (V d c j) (outM g) f)
def Fin' (d : Dev nD) (c : Fin τ.nSC) (j : Fin τ.nSub) (g : Fin 256) : sProp 𝕄 := bufAt (V d c j) (outM g) (outOf x g)
/-- Block `g` of the result going out. -/
def Going (d : Dev nD) (c : Fin τ.nSC) (j : Fin τ.nSub) (g : Fin 256) : sProp 𝕄 :=
  Transfers.Flight countersEmb (V d c j) (.dma B.so.sem) (default : HIx 1) (outM g).view.dmaCredit iprop(Fin' x d c j g ∗ bufAt (V d c j) B.ob (outOf x g))

variable {x B} {qr qc : PosShare TreeShare} {O : CellTallies nD τ sig (HIx 1)} {W : Waits sig (HIx 1)}
  {α : Type}

theorem wp_issue {kk : PUnit → Prog (TpuEff nD τ sig (Elt F) Λ₀ (.scVector c j)) α} {Q : α → sProp 𝕄} (g : Fin 256) (oR oC : Fin 3 → ℕ) (hR : oR = offR g) (hC : oC = offC g)
    (iR : ∀ a, oR a + S1x32x1024.size a ≤ S16x1024x1024.size a) (iC : ∀ a, oC a + S1x32x128.size a ≤ S16x1024x1024.size a) :
    Idle x B d c j qr qc ⊢ iprop((Coming x B d c j qr qc g -∗ wpV d c j (kk ⟨⟩) Q)
      -∗ wpV d c j (issR xV B oR iR >>= fun _ => issC xV B oC iC >>= kk) Q) := by
  subst hR hC
  unfold Idle Coming issR issC
  iintro ⟨⟨Hx, ⟨%f, Hf⟩, Hv⟩, Hx', ⟨%f', Hf'⟩, Hv'⟩ Hk
  iapply (wp_fetch (d := d) (c := c) (j := j) (rowsAt xV (offR g) iR) B.rb B.sr.sem _ _ _ (by decide) qr x f) $$ [Hx Hf Hv]
  · isplitl [Hx]; · iexact Hx
    isplitl [Hf]; · iexact Hf
    iexact Hv
  iintro Hr
  iapply (wp_fetch (d := d) (c := c) (j := j) (colsAt xV (offC g) iC) B.cb B.sc.sem _ _ _ (by decide) qc x f') $$ [Hx' Hf' Hv']
  · isplitl [Hx']; · iexact Hx'
    isplitl [Hf']; · iexact Hf'
    iexact Hv'
  iintro Hc
  iapply Hk
  rw [rows_read, cols_read]
  isplitl [Hr]; · iexact Hr
  iexact Hc

theorem wp_arrive {kk : PUnit → Prog (TpuEff nD τ sig (Elt F) Λ₀ (.scVector c j)) α} {Q : α → sProp 𝕄} (g : Fin 256) :
    iprop(Coming x B d c j qr qc g ∗ OW (V d c j) O W)
      ⊢ iprop(((xSh x d c j qr ∗ bufAt (V d c j) B.rb (rowsOf x g) ∗ semVal (V d c j, .dma B.sr.sem) 0)
          ∗ (xSh x d c j qc ∗ bufAt (V d c j) B.cb (colsOf x g) ∗ semVal (V d c j, .dma B.sc.sem) 0) ∗ OW (V d c j) O W -∗ wpV d c j (kk ⟨⟩) Q)
      -∗ wpV d c j (getR xV B >>= fun _ => getC xV B >>= kk) Q) := by
  unfold Coming getR getC
  iintro ⟨⟨Hr, Hc⟩, HO⟩ Hk
  iapply (wp_await (d := d) (c := c) (j := j) _ B.rb B.sr.sem _ _ _ rfl _ O W) $$ [Hr HO]
  · isplitl [Hr]; · iexact Hr
    iexact HO
  iintro ⟨⟨Hx, Hr⟩, Hv, HO⟩
  iapply (wp_await (d := d) (c := c) (j := j) _ B.cb B.sc.sem _ _ _ rfl _ O W) $$ [Hc HO]
  · isplitl [Hc]; · iexact Hc
    iexact HO
  iintro ⟨⟨Hx', Hc⟩, Hv', HO⟩
  iapply Hk
  isplitl [Hx Hr Hv]
  · isplitl [Hx]; · iexact Hx
    isplitl [Hr]; · iexact Hr
    iexact Hv
  isplitl [Hx' Hc Hv']
  · isplitl [Hx']; · iexact Hx'
    isplitl [Hc]; · iexact Hc
    iexact Hv'
  iexact HO

theorem wp_landed {kk : PUnit → Prog (TpuEff nD τ sig (Elt F) Λ₀ (.scVector c j)) α} {Q : α → sProp 𝕄} (g : Fin 256) :
    iprop(Going x B d c j g ∗ OW (V d c j) O W)
      ⊢ iprop((Fin' x d c j g ∗ Free B d c j ∗ OW (V d c j) O W -∗ wpV d c j (kk ⟨⟩) Q) -∗ wpV d c j (putW oV B >>= kk) Q) := by
  unfold Going Free putW
  iintro ⟨Hg, HO⟩ Hk
  iapply (wp_await (d := d) (c := c) (j := j) B.ob _ B.so.sem _ _ _ rfl _ O W) $$ [Hg HO]
  · isplitl [Hg]; · iexact Hg
    iexact HO
  iintro ⟨⟨Hx, Hr⟩, Hv, HO⟩
  iapply Hk
  isplitl [Hx]; · iexact Hx
  isplitl [Hr Hv]
  · isplitl [Hr]
    · iexists _; iexact Hr
    iexact Hv
  iexact HO

theorem wp_work {kk : PUnit → Prog (TpuEff nD τ sig (Elt F) Λ₀ (.scVector c j)) α} {Q : α → sProp 𝕄} (g : Fin 256) (w : BitVec 32) (hw : w = gW g) (o : Fin 3 → ℕ) (ho : o = offO g)
    (io : ∀ a, o a + S1x16x256.size a ≤ S16x256x256.size a) :
    iprop(((xSh x d c j qr ∗ bufAt (V d c j) B.rb (rowsOf x g) ∗ semVal (V d c j, .dma B.sr.sem) 0)
          ∗ (xSh x d c j qc ∗ bufAt (V d c j) B.cb (colsOf x g) ∗ semVal (V d c j, .dma B.sc.sem) 0)) ∗ Free B d c j ∗ Any d c j g)
      ⊢ iprop((Idle x B d c j qr qc ∗ Going x B d c j g -∗ wpV d c j (kk ⟨⟩) Q)
        -∗ wpV d c j (work B lanes w >>= fun _ => issO oV B o io >>= kk) Q) := by
  subst hw ho
  unfold Free Any Idle Going work issO
  iintro ⟨⟨⟨Hx, Hr, Hv⟩, Hx', Hc, Hv'⟩, ⟨⟨%f, Hf⟩, Hs⟩, %f', Ho⟩ Hk
  iapply (wp_rows (d := d) (c := c) (j := j) g (rowsOf x g) (colsOf x g) f) $$ [Hr Hc Hf]
  · isplitl [Hr]; · iexact Hr
    isplitl [Hc]; · iexact Hc
    iexact Hf
  iintro ⟨Hr, Hc, Hf⟩
  iapply (wp_put (d := d) (c := c) (j := j) B.ob (outM g) B.so.sem _ _ _ (by decide) (outOf x g) f') $$ [Hf Ho Hs]
  · isplitl [Hf]; · iexact Hf
    isplitl [Ho]; · iexact Ho
    iexact Hs
  iintro Hg
  iapply Hk
  isplitl [Hx Hr Hv Hx' Hc Hv']
  · isplitl [Hx Hr Hv]
    · isplitl [Hx]; · iexact Hx
      isplitl [Hr]; · iexists _; iexact Hr
      iexact Hv
    isplitl [Hx']; · iexact Hx'
    isplitl [Hc]; · iexists _; iexact Hc
    iexact Hv'
  iexact Hg

/-- A stage with the output buffer free: block `g` arrives, is worked on, and starts on its way out. -/
theorem wp_stage {kk : PUnit → Prog (TpuEff nD τ sig (Elt F) Λ₀ (.scVector c j)) α} {Q : α → sProp 𝕄} (g : Fin 256) (w : BitVec 32) (hw : w = gW g) (o : Fin 3 → ℕ) (ho : o = offO g)
    (io : ∀ a, o a + S1x16x256.size a ≤ S16x256x256.size a) :
    iprop(Coming x B d c j qr qc g ∗ Free B d c j ∗ Any d c j g ∗ OW (V d c j) O W)
      ⊢ iprop((Idle x B d c j qr qc ∗ Going x B d c j g ∗ OW (V d c j) O W -∗ wpV d c j (kk ⟨⟩) Q)
        -∗ wpV d c j (getR xV B >>= fun _ => getC xV B >>= fun _ => work B lanes w >>= fun _ => issO oV B o io >>= kk) Q) := by
  iintro ⟨Hin, Hfr, Hany, HO⟩ Hk
  iapply (wp_arrive (d := d) (c := c) (j := j) (x := x) (B := B) (qr := qr) (qc := qc) (O := O) (W := W) g) $$ [Hin HO]
  · isplitl [Hin]; · iexact Hin
    iexact HO
  iintro ⟨Hr, Hc, HO⟩
  iapply (wp_work (d := d) (c := c) (j := j) (x := x) (B := B) (qr := qr) (qc := qc) g w hw o ho io) $$ [Hr Hc Hfr Hany]
  · isplitl [Hr Hc]
    · isplitl [Hr]; · iexact Hr
      iexact Hc
    isplitl [Hfr]; · iexact Hfr
    iexact Hany
  iintro ⟨Hi, Hg⟩
  iapply Hk
  isplitl [Hi]; · iexact Hi
  isplitl [Hg]; · iexact Hg
  iexact HO

/-- And with block `g'` still on its way out. -/
theorem wp_stage' {kk : PUnit → Prog (TpuEff nD τ sig (Elt F) Λ₀ (.scVector c j)) α} {Q : α → sProp 𝕄} (g g' : Fin 256) (w : BitVec 32) (hw : w = gW g) (o : Fin 3 → ℕ) (ho : o = offO g)
    (io : ∀ a, o a + S1x16x256.size a ≤ S16x256x256.size a) :
    iprop(Coming x B d c j qr qc g ∗ Going x B d c j g' ∗ Any d c j g ∗ OW (V d c j) O W)
      ⊢ iprop((Idle x B d c j qr qc ∗ Going x B d c j g ∗ Fin' x d c j g' ∗ OW (V d c j) O W -∗ wpV d c j (kk ⟨⟩) Q)
        -∗ wpV d c j (getR xV B >>= fun _ => getC xV B >>= fun _ => putW oV B >>= fun _ => work B lanes w >>= fun _ => issO oV B o io >>= kk) Q) := by
  iintro ⟨Hin, Hg, Hany, HO⟩ Hk
  iapply (wp_arrive (d := d) (c := c) (j := j) (x := x) (B := B) (qr := qr) (qc := qc) (O := O) (W := W) g) $$ [Hin HO]
  · isplitl [Hin]; · iexact Hin
    iexact HO
  iintro ⟨Hr, Hc, HO⟩
  iapply (wp_landed (d := d) (c := c) (j := j) (x := x) (B := B) (O := O) (W := W) g') $$ [Hg HO]
  · isplitl [Hg]; · iexact Hg
    iexact HO
  iintro ⟨Hfin, Hfr, HO⟩
  iapply (wp_work (d := d) (c := c) (j := j) (x := x) (B := B) (qr := qr) (qc := qc) g w hw o ho io) $$ [Hr Hc Hfr Hany]
  · isplitl [Hr Hc]
    · isplitl [Hr]; · iexact Hr
      iexact Hc
    isplitl [Hfr]; · iexact Hfr
    iexact Hany
  iintro ⟨Hi, Hg⟩
  iapply Hk
  isplitl [Hi]; · iexact Hi
  isplitl [Hg]; · iexact Hg
  isplitl [Hfin]; · iexact Hfin
  iexact HO

end Sides

end Cert.Proof.Pool
-- ==== Proof.Tile.lean ====
/-
  The tile's run: where its eight blocks lie, the books on the result's blocks as they go out and land, the pair loop, and the
  whole body.
-/
module

public import proofs.«01_k».proof.Proof.Seg

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {d : Dev nD} {c : Fin τ.nSC} {j : Fin τ.nSub}

local notation "𝕄" => MT nD τ sig (HIx 1) (Elt F) ℕ UU ℕ

/-! ## The tile's blocks -/

/-- The tile's number. -/
def wid (i : grid0.Coords) : ℕ := 2 * (i 1).val + (i 0).val
/-- The tile's block `k`. -/
def pc (i : grid0.Coords) (k : ℕ) : Fin 256 := Fin.ofNat 256 (8 * wid i + k)

theorem off1_eq : ∀ i : grid0.Coords, k0_off1 i = offR (pc i 0) := by decide +kernel
theorem off2_eq : ∀ i : grid0.Coords, k0_off2 i = offC (pc i 0) := by decide +kernel
theorem off3_eq : ∀ i : grid0.Coords, k0_off3 i = offR (pc i 1) := by decide +kernel
theorem off4_eq : ∀ i : grid0.Coords, k0_off4 i = offC (pc i 1) := by decide +kernel
theorem off21_eq : ∀ i : grid0.Coords, ∀ p : Fin 2, k0_off21 i (BitVec.ofNat 32 p.val) = offO (pc i p.val) := by decide +kernel
theorem off22_eq : ∀ i : grid0.Coords, ∀ p : Fin 2, k0_off22 i (BitVec.ofNat 32 p.val) = offR (pc i (2 + p.val)) := by decide +kernel
theorem off23_eq : ∀ i : grid0.Coords, ∀ p : Fin 2, k0_off23 i (BitVec.ofNat 32 p.val) = offC (pc i (2 + p.val)) := by decide +kernel
theorem off56_eq : ∀ i : grid0.Coords, ∀ t : Fin k0_t3_loop.trips, ∀ p : Fin 2, k0_off56 i t (BitVec.ofNat 32 p.val) = offO (pc i (2 * t.val + p.val + 2)) := by decide +kernel
theorem off57_eq : ∀ i : grid0.Coords, ∀ t : Fin k0_t3_loop.trips, k0_cond1 t = 1#1 → k0_off57 i t = offR (pc i (2 * t.val + 4)) := by decide +kernel
theorem off58_eq : ∀ i : grid0.Coords, ∀ t : Fin k0_t3_loop.trips, k0_cond1 t = 1#1 → k0_off58 i t = offC (pc i (2 * t.val + 4)) := by decide +kernel
theorem off75_eq : ∀ i : grid0.Coords, ∀ t : Fin k0_t3_loop.trips, k0_cond2 t = 1#1 → k0_off75 i t = offR (pc i (2 * t.val + 5)) := by decide +kernel
theorem off76_eq : ∀ i : grid0.Coords, ∀ t : Fin k0_t3_loop.trips, k0_cond2 t = 1#1 → k0_off76 i t = offC (pc i (2 * t.val + 5)) := by decide +kernel
theorem cond1_iff : ∀ t : Fin k0_t3_loop.trips, Iff (k0_cond1 t = 1#1) (t.val < 2) := by decide +kernel
theorem cond2_iff : ∀ t : Fin k0_t3_loop.trips, Iff (k0_cond2 t = 1#1) (t.val < 2) := by decide +kernel
theorem firstW_eq : ∀ i : grid0.Coords, ∀ p : Fin 2, Scalar.addi (firstW i) (BitVec.ofNat 32 p.val) = gW (pc i p.val) := by decide +kernel
theorem pairW_eq : ∀ i : grid0.Coords, ∀ t : Fin k0_t3_loop.trips, ∀ p : Fin 2, pairW (firstW i) t.val (BitVec.ofNat 32 p.val) = gW (pc i (2 * t.val + p.val + 2)) := by decide +kernel

/-! ## The books on the result's blocks -/

section Books

variable (x : Vec F S16x1024x1024 .f32) (i : grid0.Coords)

/-- With `n` blocks landed and two on their way: the landed at their values, the untouched at anything. -/
def Books (d : Dev nD) (c : Fin τ.nSC) (j : Fin τ.nSub) (n : ℕ) : sProp 𝕄 :=
  bigSep Finset.univ fun k : Fin 8 => if k.val < n then Fin' x d c j (pc i k) else if k.val < n + 2 then iprop(emp) else Any d c j (pc i k)

/-- The next block handed out, the oldest landed. -/
theorem books_step (n : ℕ) (hn : n + 2 < 8) :
    Books x i d c j n ⊢ iprop(Any d c j (pc i (n + 2)) ∗ (Fin' x d c j (pc i n) -∗ Books x i d c j (n + 1))) := by
  unfold Books
  have h1 : (⟨n + 2, hn⟩ : Fin 8) ∈ (Finset.univ : Finset (Fin 8)) := Finset.mem_univ _
  have h2 : (⟨n, by omega⟩ : Fin 8) ∈ (Finset.univ : Finset (Fin 8)).erase ⟨n + 2, hn⟩ :=
    Finset.mem_erase.mpr ⟨fun e => by have := congrArg Fin.val e; simp only at this; omega, Finset.mem_univ _⟩
  rw [SparseCore.bigSep_erase' h1, SparseCore.bigSep_erase' h2, SparseCore.bigSep_erase' h1, SparseCore.bigSep_erase' h2]
  have e : ∀ k ∈ ((Finset.univ : Finset (Fin 8)).erase ⟨n + 2, hn⟩).erase ⟨n, by omega⟩,
      (if k.val < n then Fin' x d c j (pc i k) else if k.val < n + 2 then iprop(emp) else Any d c j (pc i k) : sProp 𝕄)
        = if k.val < n + 1 then Fin' x d c j (pc i k) else if k.val < n + 1 + 2 then iprop(emp) else Any d c j (pc i k) := by
    intro k hk
    have ha : k.val ≠ n := fun e => (Finset.mem_erase.mp hk).1 (Fin.ext e)
    have hb : k.val ≠ n + 2 := fun e => (Finset.mem_erase.mp (Finset.mem_erase.mp hk).2).1 (Fin.ext e)
    split_ifs <;> first | rfl | omega
  rw [← bigSep_congr e]
  simp only [show ¬ n + 2 < n by omega, show ¬ n + 2 < n + 2 by omega, show ¬ n < n by omega, show n < n + 2 by omega, show n < n + 1 by omega,
    show ¬ n + 2 < n + 1 by omega, show n + 2 < n + 1 + 2 by omega, if_true, if_false]
  iintro ⟨Ha, -, Hr⟩
  isplitl [Ha]; · iexact Ha
  iintro Hf
  isplitr; · iempintro
  isplitl [Hf]; · iexact Hf
  iexact Hr

/-- At the start two blocks are handed out. -/
theorem books_start :
    (bigSep Finset.univ fun k : Fin 8 => Any (F := F) d c j (pc i k)) ⊢ iprop(Any d c j (pc i 0) ∗ Any d c j (pc i 1) ∗ Books x i d c j 0) := by
  unfold Books
  have h1 : (0 : Fin 8) ∈ (Finset.univ : Finset (Fin 8)) := Finset.mem_univ _
  have h2 : (1 : Fin 8) ∈ (Finset.univ : Finset (Fin 8)).erase 0 := by decide
  rw [SparseCore.bigSep_erase' h1, SparseCore.bigSep_erase' h2, SparseCore.bigSep_erase' h1, SparseCore.bigSep_erase' h2]
  have e : ∀ k ∈ ((Finset.univ : Finset (Fin 8)).erase 0).erase 1,
      (Any d c j (pc i k) : sProp 𝕄) = if k.val < 0 then Fin' x d c j (pc i k) else if k.val < 0 + 2 then iprop(emp) else Any d c j (pc i k) := by
    intro k hk
    have ha : k.val ≠ 1 := fun e => (Finset.mem_erase.mp hk).1 (Fin.ext e)
    have hb : k.val ≠ 0 := fun e => (Finset.mem_erase.mp (Finset.mem_erase.mp hk).2).1 (Fin.ext e)
    split_ifs <;> first | rfl | omega
  rw [← bigSep_congr e]
  iintro ⟨Ha, Hb, Hr⟩
  isplitl [Ha]; · iexact Ha
  isplitl [Hb]; · iexact Hb
  isplitr; · exact (by iempintro)
  isplitr; · exact (by iempintro)
  iexact Hr

/-- At the end the last two come back, and every block is at its value. -/
theorem books_end :
    iprop(Books x i d c j 6 ∗ Fin' x d c j (pc i 6) ∗ Fin' x d c j (pc i 7)) ⊢ bigSep Finset.univ fun k : Fin 8 => Fin' x d c j (pc i k) := by
  unfold Books
  have h1 : (6 : Fin 8) ∈ (Finset.univ : Finset (Fin 8)) := Finset.mem_univ _
  have h2 : (7 : Fin 8) ∈ (Finset.univ : Finset (Fin 8)).erase 6 := by decide
  rw [SparseCore.bigSep_erase' h1, SparseCore.bigSep_erase' h2, SparseCore.bigSep_erase' h1, SparseCore.bigSep_erase' h2]
  have e : ∀ k ∈ ((Finset.univ : Finset (Fin 8)).erase 6).erase 7,
      (if k.val < 6 then Fin' x d c j (pc i k) else if k.val < 6 + 2 then iprop(emp) else Any d c j (pc i k) : sProp 𝕄) = Fin' x d c j (pc i k) := by
    intro k hk
    have ha : k.val ≠ 7 := fun e => (Finset.mem_erase.mp hk).1 (Fin.ext e)
    have hb : k.val ≠ 6 := fun e => (Finset.mem_erase.mp (Finset.mem_erase.mp hk).2).1 (Fin.ext e)
    have := k.isLt
    split_ifs <;> first | rfl | omega
  rw [bigSep_congr e]
  iintro ⟨⟨-, -, Hr⟩, Ha, Hb⟩
  isplitl [Ha]; · iexact Ha
  isplitl [Hb]; · iexact Hb
  iexact Hr

end Books

/-! ## The pair loop -/

section Loop

variable (x : Vec F S16x1024x1024 .f32) (i : grid0.Coords) (B₀ B₁ : Side) (q₀ q₀' q₁ q₁' : PosShare TreeShare)
  (O : CellTallies nD τ sig (HIx 1)) (W : Waits sig (HIx 1))

/-- A side before trip `n`: its next block on its way in, or after the last trip nothing. -/
def Side.At (B : Side) (d : Dev nD) (c : Fin τ.nSC) (j : Fin τ.nSub) (qr qc : PosShare TreeShare) (n : ℕ) (g : Fin 256) : sProp 𝕄 :=
  if n < 3 then Coming x B d c j qr qc g else Idle x B d c j qr qc

/-- The state before trip `n` of the pair loop. -/
def Inv (d : Dev nD) (c : Fin τ.nSC) (j : Fin τ.nSub) (n : ℕ) : sProp 𝕄 :=
  iprop(B₀.At x d c j q₀ q₀' n (pc i (2 * n + 2)) ∗ B₁.At x d c j q₁ q₁' n (pc i (2 * n + 3)) ∗ Going x B₀ d c j (pc i (2 * n)) ∗ Going x B₁ d c j (pc i (2 * n + 1))
    ∗ Books x i d c j (2 * n) ∗ OW (V d c j) O W)

variable {x i B₀ B₁ q₀ q₀' q₁ q₁' O W} {α : Type}

theorem wp_next0 {kk : PUnit → Prog (TpuEff nD τ sig (Elt F) Λ₀ (.scVector c j)) α} {Q : α → sProp 𝕄} (t : Fin k0_t3_loop.trips) :
    Idle x B₀ d c j q₀ q₀' ⊢ iprop((B₀.At x d c j q₀ q₀' (t.val + 1) (pc i (2 * t.val + 4)) -∗ wpV d c j (kk ⟨⟩) Q)
      -∗ wpV d c j (next0 xV B₀ i t >>= kk) Q) := by
  unfold next0 Side.At
  iintro Hi Hk
  by_cases h : k0_cond1 t = 1#1
  · rw [dif_pos h, if_pos (by have := (cond1_iff t).mp h; omega), bind_assoc]
    iapply (wp_issue (d := d) (c := c) (j := j) (pc i (2 * t.val + 4)) _ _ (off57_eq i t h) (off58_eq i t h)) $$ Hi
    iexact Hk
  · rw [dif_neg h, if_neg (fun h' => h ((cond1_iff t).mpr (by omega))), pure_bind]
    iapply Hk; iexact Hi

theorem wp_next1 {Q : PUnit → sProp 𝕄} (t : Fin k0_t3_loop.trips) :
    Idle x B₁ d c j q₁ q₁' ⊢ iprop((B₁.At x d c j q₁ q₁' (t.val + 1) (pc i (2 * t.val + 5)) -∗ Q ⟨⟩)
      -∗ wpV d c j (next1 xV B₁ i t) Q) := by
  unfold next1 Side.At
  iintro Hi Hk
  by_cases h : k0_cond2 t = 1#1
  · rw [dif_pos h, if_pos (by have := (cond2_iff t).mp h; omega), ← bind_pure (issR xV B₁ (k0_off75 i t) _ >>= _), bind_assoc]
    iapply (wp_issue (d := d) (c := c) (j := j) (pc i (2 * t.val + 5)) _ _ (off75_eq i t h) (off76_eq i t h)) $$ Hi
    iintro H
    rw [wpV, show (pure ⟨⟩ : Prog (TpuEff nD τ sig (Elt F) Λ₀ (.scVector c j)) PUnit) = .ret ⟨⟩ from rfl, wp_ret]
    imodintro
    iapply Hk; iexact H
  · rw [dif_neg h, if_neg (fun h' => h ((cond2_iff t).mpr (by omega)))]
    rw [wpV, show (pure ⟨⟩ : Prog (TpuEff nD τ sig (Elt F) Λ₀ (.scVector c j)) PUnit) = .ret ⟨⟩ from rfl, wp_ret]
    imodintro
    iapply Hk; iexact Hi

theorem wp_trip (t : Fin k0_t3_loop.trips) :
    Inv x i B₀ B₁ q₀ q₀' q₁ q₁' O W d c j t.val
      ⊢ wpV d c j (trip xV oV B₀ B₁ i (firstW i) lanes t) fun _ => Inv x i B₀ B₁ q₀ q₀' q₁ q₁' O W d c j (t.val + 1) := by
  have ht : t.val < 3 := t.isLt
  unfold Inv trip
  rw [Side.At, if_pos ht, Side.At, if_pos ht]
  iintro ⟨H0, H1, Hg0, Hg1, Hb, HO⟩
  ihave Hb := (books_step x i (2 * t.val) (by omega)) $$ Hb
  icases Hb with ⟨Ha, Hb⟩
  iapply (wp_stage' (d := d) (c := c) (j := j) (x := x) (B := B₀) (qr := q₀) (qc := q₀') (O := O) (W := W) (pc i (2 * t.val + 2)) (pc i (2 * t.val)) _
    (pairW_eq i t 0) _ (off56_eq i t 0) _) $$ [H0 Hg0 Ha HO]
  · isplitl [H0]; · iexact H0
    isplitl [Hg0]; · iexact Hg0
    isplitl [Ha]; · iexact Ha
    iexact HO
  iintro ⟨H0, Hg0, Hf, HO⟩
  iapply (wp_next0 (d := d) (c := c) (j := j) (i := i) t) $$ H0
  iintro H0
  ihave Hb := Hb $$ Hf
  ihave Hb := (books_step x i (2 * t.val + 1) (by omega)) $$ Hb
  icases Hb with ⟨Ha, Hb⟩
  iapply (wp_stage' (d := d) (c := c) (j := j) (x := x) (B := B₁) (qr := q₁) (qc := q₁') (O := O) (W := W) (pc i (2 * t.val + 3)) (pc i (2 * t.val + 1)) _
    (pairW_eq i t 1) _ (off56_eq i t 1) _) $$ [H1 Hg1 Ha HO]
  · isplitl [H1]; · iexact H1
    isplitl [Hg1]; · iexact Hg1
    isplitl [Ha]; · iexact Ha
    iexact HO
  iintro ⟨H1, Hg1, Hf, HO⟩
  iapply (wp_next1 (d := d) (c := c) (j := j) (i := i) t) $$ H1
  iintro H1
  ihave Hb := Hb $$ Hf
  isplitl [H0]; · iexact H0
  isplitl [H1]; · iexact H1
  isplitl [Hg0]; · iexact Hg0
  isplitl [Hg1]; · iexact Hg1
  isplitl [Hb]; · iexact Hb
  iexact HO

/-- The tile, from idle sides and its eight blocks at anything, to idle sides and its eight blocks at their values. -/
theorem wp_tile :
    iprop((Idle x B₀ d c j q₀ q₀' ∗ Idle x B₁ d c j q₁ q₁' ∗ Free B₀ d c j ∗ Free B₁ d c j) ∗ (bigSep Finset.univ fun k : Fin 8 => Any d c j (pc i k)) ∗ OW (V d c j) O W)
      ⊢ wpV d c j (tile xV oV B₀ B₁ i (firstW i) lanes) fun _ =>
        iprop((Idle x B₀ d c j q₀ q₀' ∗ Idle x B₁ d c j q₁ q₁' ∗ Free B₀ d c j ∗ Free B₁ d c j) ∗ (bigSep Finset.univ fun k : Fin 8 => Fin' x d c j (pc i k)) ∗ OW (V d c j) O W) := by
  unfold tile
  iintro ⟨⟨H0, H1, Hr0, Hr1⟩, Hb, HO⟩
  ihave Hb := (books_start x i) $$ Hb
  icases Hb with ⟨Ha0, Ha1, Hb⟩
  iapply (wp_issue (d := d) (c := c) (j := j) (pc i 0) _ _ (off1_eq i) (off2_eq i)) $$ H0
  iintro H0
  iapply (wp_issue (d := d) (c := c) (j := j) (pc i 1) _ _ (off3_eq i) (off4_eq i)) $$ H1
  iintro H1
  iapply (wp_stage (d := d) (c := c) (j := j) (x := x) (B := B₀) (qr := q₀) (qc := q₀') (O := O) (W := W) (pc i 0) _ (firstW_eq i 0) _ (off21_eq i 0) _) $$ [H0 Hr0 Ha0 HO]
  · isplitl [H0]; · iexact H0
    isplitl [Hr0]; · iexact Hr0
    isplitl [Ha0]; · iexact Ha0
    iexact HO
  iintro ⟨H0, Hg0, HO⟩
  iapply (wp_issue (d := d) (c := c) (j := j) (pc i 2) _ _ (off22_eq i 0) (off23_eq i 0)) $$ H0
  iintro H0
  iapply (wp_stage (d := d) (c := c) (j := j) (x := x) (B := B₁) (qr := q₁) (qc := q₁') (O := O) (W := W) (pc i 1) _ (firstW_eq i 1) _ (off21_eq i 1) _) $$ [H1 Hr1 Ha1 HO]
  · isplitl [H1]; · iexact H1
    isplitl [Hr1]; · iexact Hr1
    isplitl [Ha1]; · iexact Ha1
    iexact HO
  iintro ⟨H1, Hg1, HO⟩
  iapply (wp_issue (d := d) (c := c) (j := j) (pc i 3) _ _ (off22_eq i 1) (off23_eq i 1)) $$ H1
  iintro H1
  iapply (Scf.wp_for_bind frame (wpE (defs₀ (F := F)) 𝒱₀ (V d c j) none) Set.univ _ _ _ k0_t3_ok ⟨⟩ (fun t _ => trip xV oV B₀ B₁ i (firstW i) lanes t)
    (fun n _ => Inv x i B₀ B₁ q₀ q₀' q₁ q₁' O W d c j n) (fun t _ => wp_trip t)) $$ [H0 H1 Hg0 Hg1 Hb HO]
  · unfold Inv
    rw [Side.At, if_pos (by omega), Side.At, if_pos (by omega)]
    isplitl [H0]; · iexact H0
    isplitl [H1]; · iexact H1
    isplitl [Hg0]; · iexact Hg0
    isplitl [Hg1]; · iexact Hg1
    isplitl [Hb]; · iexact Hb
    iexact HO
  iintro %_ HI
  rw [show Scf.trips k0_t3_loop.lb k0_t3_loop.ub k0_t3_loop.st = 3 by decide +kernel]
  unfold Inv
  rw [Side.At, if_neg (by omega), Side.At, if_neg (by omega)]
  icases HI with ⟨H0, H1, Hg0, Hg1, Hb, HO⟩
  iapply (wp_landed (d := d) (c := c) (j := j) (x := x) (B := B₀) (O := O) (W := W) (pc i 6)) $$ [Hg0 HO]
  · isplitl [Hg0]; · iexact Hg0
    iexact HO
  iintro ⟨Hf0, Hr0, HO⟩
  iapply (wp_landed (d := d) (c := c) (j := j) (x := x) (B := B₁) (O := O) (W := W) (pc i 7)) $$ [Hg1 HO]
  · isplitl [Hg1]; · iexact Hg1
    iexact HO
  iintro ⟨Hf1, Hr1, HO⟩
  rw [wpV, show (pure ⟨⟩ : Prog (TpuEff nD τ sig (Elt F) Λ₀ (.scVector c j)) PUnit) = .ret ⟨⟩ from rfl, wp_ret]
  imodintro
  isplitl [H0 H1 Hr0 Hr1]
  · isplitl [H0]; · iexact H0
    isplitl [H1]; · iexact H1
    isplitl [Hr0]; · iexact Hr0
    iexact Hr1
  isplitl [Hb Hf0 Hf1]
  · iapply (books_end x i)
    isplitl [Hb]; · iexact Hb
    isplitl [Hf0]; · iexact Hf0
    iexact Hf1
  iexact HO

end Loop

end Cert.Proof.Pool
-- ==== Proof.Launch.lean ====
/-
  The launch: the input goes out to the tiles as shares, the result array as its blocks; every tile runs its body and
  brings its blocks back at their values; so the whole program runs, leaves its arguments as they were, and leaves in
  the result array the one array `pooled` of the input.
-/
module

public import proofs.«01_k».proof.Proof.Tile

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The result array and its blocks -/

/-- What the kernel leaves in the result array. -/
def pooled (x : Vec F S16x1024x1024 .f32) : Vec F S16x256x256 .f32 :=
  fun y => outOf x (16 * (y 0).val + (y 1).val / 16) (ix2 (Fin.ofNat 16 (y 1).val) (Fin.ofNat 256 (y 2).val))

abbrev outSet (g : Fin 256) : Finset S16x256x256.Idx := (outM g).view.set

omit [FloatOps F] in
theorem mem_outSet (g : Fin 256) (y : S16x256x256.Idx) : Iff (y ∈ outSet g) (g.val = 16 * (y 0).val + (y 1).val / 16) := by
  have e : outSet g = (Rect.unit (s := S16x256x256) (offO g) S1x16x256.size (offO_inb g)).set := by
    show (((oV).view.slice (Rect.unit (s := S16x256x256) (offO g) S1x16x256.size (offO_inb g))).reshape S16x256 squeezes_S1x16x256_S16x256.numel_eq).set = _
    rw [View.set_reshape, View.set_slice]; exact Finset.map_refl
  have h0 : (y 0).val < 16 := (y 0).isLt
  have h1 : (y 1).val < 256 := (y 1).isLt
  have h2 : (y 2).val < 256 := (y 2).isLt
  have hg := g.isLt
  rw [e, Rect.mem_set_unit]
  constructor
  · intro h
    have a0 := h 0
    have a1 := h 1
    simp only [offO, rowOf, Matrix.cons_val] at a0 a1
    simp at a0 a1
    omega
  · intro h a
    match a with
    | 0 => simp [offO]; omega
    | 1 => simp [offO, rowOf]; omega
    | 2 => simp [offO]; omega

theorem pooled_read (x : Vec F S16x1024x1024 .f32) (g : Fin 256) : (outM g).view.read (Elt F) (pooled x) = outOf x g := by
  funext y
  have h0 : (y 0).val < 16 := (y 0).isLt
  have h1 : (y 1).val < 256 := (y 1).isLt
  have hg := g.isLt
  rw [Memref.read_squeeze_slice oV _ _ _ (show _ from squeezes_S1x16x256_S16x256.numel_eq)]
  refine (shapeCast_dropUnit_apply (![16, 256]) _ _ y).trans ?_
  show pooled x _ = _
  unfold pooled
  refine congr (congrArg (outOf x) ?_) ?_
  · show 16 * (offO g 0 + 1 * 0) + (offO g 1 + 1 * (y 0).val) / 16 = g.val
    simp only [offO, rowOf, Matrix.cons_val]; omega
  · rw [eq_ix2 y]
    refine congr (congrArg ix2 (Fin.ext ?_)) (Fin.ext ?_)
    · show (offO g 1 + 1 * (y 0).val) % 16 = (y 0).val
      simp only [offO, rowOf, Matrix.cons_val]; omega
    · show (offO g 2 + 1 * (y 1).val) % 256 = (y 1).val
      simp only [offO, Matrix.cons_val]; omega
  exact squeezes_S1x16x256_S16x256

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

/-- Block `k` of tile `s` of SparseCore `c`. -/
def blkOf (t : Fin 2 × Fin 16 × Fin 8) : Fin 256 := pc (coordsV t.1 t.2.1) t.2.2.val

theorem blkOf_val (t : Fin 2 × Fin 16 × Fin 8) : (blkOf t).val = 8 * (2 * t.2.1.val + t.1.val) + t.2.2.val := by
  obtain ⟨c, s, k⟩ := t
  show (8 * (2 * s.val + c.val) + k.val) % 256 = _
  have := c.isLt; have := s.isLt; have := k.isLt
  simp only; omega

theorem blkOf_inj {t t' : Fin 2 × Fin 16 × Fin 8} (h : blkOf t = blkOf t') : t = t' := by
  have e := congrArg Fin.val h
  rw [blkOf_val, blkOf_val] at e
  obtain ⟨c, s, k⟩ := t
  obtain ⟨c', s', k'⟩ := t'
  have := c.isLt; have := s.isLt; have := k.isLt; have := c'.isLt; have := s'.isLt; have := k'.isLt
  simp only at e
  have h1 : c = c' := Fin.ext (by omega)
  have h2 : s = s' := Fin.ext (by omega)
  have h3 : k = k' := Fin.ext (by omega)
  rw [h1, h2, h3]

theorem blks_disjoint : ∀ t ∈ (Finset.univ : Finset (Fin 2 × Fin 16 × Fin 8)), ∀ t' ∈ (Finset.univ : Finset (Fin 2 × Fin 16 × Fin 8)), t ≠ t' →
    Disjoint (outSet (blkOf t)) (outSet (blkOf t')) := fun t _ t' _ h =>
  Finset.disjoint_left.mpr fun y hy hy' => h (blkOf_inj (Fin.ext (((mem_outSet _ y).mp hy).trans ((mem_outSet _ y).mp hy').symm)))

theorem blks_cover : (Finset.univ : Finset (Fin 2 × Fin 16 × Fin 8)).biUnion (fun t => outSet (blkOf t)) = Finset.univ := by
  refine Finset.eq_univ_iff_forall.mpr fun y => ?_
  have h0 : (y 0).val < 16 := (y 0).isLt
  have h1 : (y 1).val < 256 := (y 1).isLt
  refine Finset.mem_biUnion.mpr ⟨(⟨(2 * (y 0).val + (y 1).val / 128) % 2, by omega⟩, ⟨(y 0).val, h0⟩, ⟨(y 1).val / 16 % 8, by omega⟩), Finset.mem_univ _, ?_⟩
  rw [mem_outSet, blkOf_val]
  simp only; omega

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

abbrev coreQ (c : Fin 2) : PosShare TreeShare := piece fullShare 1 c
abbrev tileQ (c : Fin 2) (s : Fin 16) : PosShare TreeShare := piece (coreQ c) 15 s
abbrev copyQ (c : Fin 2) (s : Fin 16) (k : Fin 4) : PosShare TreeShare := piece (tileQ c s) 3 k

/-- The input at a share, and the blocks of tile `s` of SparseCore `c`, reading off `f`. -/
abbrev blksPts (d : Dev nD) (f : Buf (Elt F) (oLoc d)) (c : Fin 2) (s : Fin 16) : sProp 𝕄 :=
  bigSep Finset.univ fun k : Fin 8 => oLoc d ↦[outSet (blkOf (c, s, k))]{fullShare} f
abbrev tilePts (d : Dev nD) (f : Buf (Elt F) (oLoc d)) (c : Fin 2) (s : Fin 16) : sProp 𝕄 :=
  iprop((xLoc d ↦{tileQ c s} m (xLoc d)) ∗ blksPts d f c s)
abbrev corePts (d : Dev nD) (f : Buf (Elt F) (oLoc d)) (c : Fin 2) : sProp 𝕄 :=
  iprop((xLoc d ↦{coreQ c} m (xLoc d)) ∗ bigSep Finset.univ fun s : Fin 16 => blksPts d f c s)

/-- The result array at the kernel's values. -/
abbrev pooledAt (d : Dev nD) : Buf (Elt F) (oLoc d) := pooled (F := F) (m (xLoc d))

theorem core_split (d : Dev nD) (f : Buf (Elt F) (oLoc d)) :
    iprop((xLoc d ↦{fullShare} m (xLoc d)) ∗ (oLoc d ↦{fullShare} f)) = bigSep Finset.univ fun c : Fin 2 => corePts m d f c := by
  rw [bigSep_sep', ← pointsTo_pieces Finset.univ (m (xLoc d)) 1 fullShare]
  congr 1
  rw [← blks_cover, pointsTo_biUnion Finset.univ (ℓ := oLoc d) (fun t => outSet (blkOf t)) blks_disjoint, bigSep_univ_prod]
  exact bigSep_congr fun c _ => bigSep_univ_prod _

theorem tile_split (d : Dev nD) (f : Buf (Elt F) (oLoc d)) (c : Fin 2) :
    corePts m d f c = bigSep Finset.univ fun s : Fin 16 => tilePts m d f c s := by
  rw [bigSep_sep', ← pointsTo_pieces Finset.univ (m (xLoc d)) 15 (coreQ c)]

/-- The one call takes the input and the result array, hands each core and each tile its part, and takes them back
    with the result's blocks at the kernel's values. -/
def P : (K (F := F)).Pay (nD := nD) (Val := Elt F) (Name := ℕ) (U := UU) where
  st := fun q d c => match q with | 0 => corePts m d (m (oLoc d)) c
  dn := fun q d c => match q with | 0 => corePts m d (pooledAt m d) c
  go := fun q d c i => match q with | 0 => tilePts m d (m (oLoc d)) c i
  td := fun q d c i => match q with | 0 => tilePts m d (pooledAt m d) c i
  x := fun _ _ => iprop(emp)

instance P_storable : (P (F := F) m).IsStorable where
  st q d c := match q with | 0 => (inferInstance : BI.Storable (upEmb : UEmb _ 𝕄) (corePts m d (m (oLoc d)) c))
  dn q d c := match q with | 0 => (inferInstance : BI.Storable (upEmb : UEmb _ 𝕄) (corePts m d (pooledAt m d) c))
  go q d c i := match q with | 0 => (inferInstance : BI.Storable (upEmb : UEmb _ 𝕄) (tilePts m d (m (oLoc d)) c i))
  td q d c i := match q with | 0 => (inferInstance : BI.Storable (upEmb : UEmb _ 𝕄) (tilePts m d (pooledAt m d) c i))

/-! ## The tile's own buffers and semaphores -/

section Own

omit [FloatOps F] in
theorem bigSep_family {I : Type} [DecidableEq I] {n : ℕ} (s : Finset I) (f : Fin n → I) (hf : Function.Injective f) (hs : ∀ k, f k ∈ s) (Φ : I → sProp 𝕄) :
    bigSep s Φ = iprop((bigSep Finset.univ fun k : Fin n => Φ (f k)) ∗ bigSep (s \ Finset.univ.image f) Φ) := by
  have hsub : Finset.univ.image f ⊆ s := fun a ha => by
    obtain ⟨k, -, rfl⟩ := Finset.mem_image.mp ha
    exact hs k
  rw [← SparseCore.bigSep_image_of_injOn (hf.injOn) Φ]
  conv_lhs => rw [← Finset.union_sdiff_of_subset hsub]
  rw [bigSep_union Finset.disjoint_sdiff]; rfl

omit [FloatOps F] in
theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

omit [FloatOps F] in
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

variable (d : Dev nD) (c : Fin τ.nSC) (j : Fin τ.nSub)

/-- The kernel's six buffers and six semaphores. -/
def bufs : Fin 6 → Ref sig .scVector := ![cc0_scratch0, cc0_scratch1, cc0_scratch2, cc0_scratch3, cc0_scratch4, cc0_scratch5]
def sems : Fin 6 → DmaSem sig := ![cc0_scratch6.sem, cc0_scratch7.sem, cc0_scratch8.sem, cc0_scratch9.sem, cc0_scratch10.sem, cc0_scratch11.sem]

theorem bufs_inj : Function.Injective bufs := by decide
theorem sems_inj : Function.Injective sems := by decide
theorem sems_scoped : ∀ k, (SemLoc.dma (sems k) : SemLoc sig).isScoped .scVector = true := by decide

omit [FloatOps F] in
theorem ownSems0_V : ∃ R : sProp 𝕄, (ownSems0 (V d c j) : sProp 𝕄)
    = iprop((semVal (V d c j, .dma cc0_scratch6.sem) 0 ∗ semVal (V d c j, .dma cc0_scratch7.sem) 0 ∗ semVal (V d c j, .dma cc0_scratch8.sem) 0
        ∗ semVal (V d c j, .dma cc0_scratch9.sem) 0 ∗ semVal (V d c j, .dma cc0_scratch10.sem) 0 ∗ semVal (V d c j, .dma cc0_scratch11.sem) 0) ∗ R) := by
  refine ⟨bigSep (ownCells (V d c j) \ Finset.univ.image fun k : Fin 6 => ((V d c j, .dma (sems k)) : GSem nD τ sig)) fun g => semVal g 0, ?_⟩
  unfold SparseCore.Cfg.ownSems0
  refine (bigSep_family _ (fun k : Fin 6 => ((V d c j, .dma (sems k)) : GSem nD τ sig)) (fun a b h => sems_inj ?_) (fun k => mem_ownCells.mpr ⟨rfl, sems_scoped k⟩) _).trans ?_
  · injection h with _ h; injection h
  rw [bigSep_six]
  rfl

omit [FloatOps F] in
theorem ownBufs_V : ∃ R : sProp 𝕄, (ownBufs (V d c j) : sProp 𝕄)
    = iprop(((∃ f, (V d c j).loc cc0_scratch0 ↦{fullShare} f) ∗ (∃ f, (V d c j).loc cc0_scratch1 ↦{fullShare} f) ∗ (∃ f, (V d c j).loc cc0_scratch2 ↦{fullShare} f)
        ∗ (∃ f, (V d c j).loc cc0_scratch3 ↦{fullShare} f) ∗ (∃ f, (V d c j).loc cc0_scratch4 ↦{fullShare} f) ∗ (∃ f, (V d c j).loc cc0_scratch5 ↦{fullShare} f)) ∗ R) := by
  refine ⟨bigSep (ownRefs (τ := τ) (.scVector c j) \ Finset.univ.image fun k : Fin 6 => (Proc.scVector c j).devRef (bufs k))
    fun b => iprop(∃ f, ((d, b) : Loc nD τ sig) ↦{fullShare} f), ?_⟩
  unfold SparseCore.Cfg.ownBufs
  refine (bigSep_family _ (fun k : Fin 6 => (Proc.scVector c j).devRef (bufs k)) (fun a b h => bufs_inj (Proc.devRef_injective _ h))
    (fun k => SparseCore.Cfg.mem_ownRefs_of_owner (p := Proc.scVector c j) (b := (Proc.scVector c j).devRef (bufs k)) ?_) _).trans ?_
  · fin_cases k <;> rfl
  rw [bigSep_six]
  rfl

omit [FloatOps F] in
/-- A whole buffer at anything, as the kernel's rules hold it. -/
theorem buf_in {thr : Thread nD τ} {sp : Space} {s : Shape} {e : EltTy} (mr : Memref sig thr.2.kind sp s e) (h : mr.view.set = Finset.univ) :
    (iprop(∃ f, mr.view.loc thr ↦{fullShare} f) : sProp 𝕄) ⊢ iprop(∃ f, bufAt thr mr f) := by
  unfold bufAt
  rw [h]
  iintro ⟨%f, H⟩
  iexists _; iexists f
  isplitr
  swap; · iexact H
  ipureintro; rfl

omit [FloatOps F] in
theorem buf_out {thr : Thread nD τ} {sp : Space} {s : Shape} {e : EltTy} (mr : Memref sig thr.2.kind sp s e) (h : mr.view.set = Finset.univ) :
    (iprop(∃ f, bufAt thr mr f) : sProp 𝕄) ⊢ iprop(∃ f, mr.view.loc thr ↦{fullShare} f) := by
  unfold bufAt
  rw [h]
  iintro ⟨%g, %f, -, H⟩
  iexists f; iexact H

/-- A buffer at anything, as the launch holds it and as the kernel's rules do. -/
abbrev Loose (thr : Thread nD τ) (b : Ref sig thr.2.kind) : sProp 𝕄 := iprop(∃ f, thr.loc b ↦{fullShare} f)
abbrev Held (thr : Thread nD τ) {sp : Space} {s : Shape} {e : EltTy} (mr : Memref sig thr.2.kind sp s e) : sProp 𝕄 := iprop(∃ f, bufAt thr mr f)

omit [FloatOps F] in
theorem whole_in (thr : Thread nD τ) (b : Ref sig thr.2.kind) : (Loose thr b : sProp 𝕄) ⊢ Held thr (Memref.whole b) :=
  buf_in (Memref.whole b) (View.set_whole b)
omit [FloatOps F] in
theorem whole_out (thr : Thread nD τ) (b : Ref sig thr.2.kind) : (Held thr (Memref.whole b) : sProp 𝕄) ⊢ Loose thr b :=
  buf_out (Memref.whole b) (View.set_whole b)

end Own

/-! ## The tile -/

section Tile

/-- The two sides, at the kernel's own buffers and semaphores. -/
def side₀ : Side :=
  ⟨Memref.whole cc0_scratch0, Memref.isWhole_whole _, Memref.whole cc0_scratch2, Memref.isWhole_whole _, Memref.whole cc0_scratch4, Memref.isWhole_whole _,
    cc0_scratch6, cc0_scratch8, cc0_scratch10⟩
def side₁ : Side :=
  ⟨Memref.whole cc0_scratch1, Memref.isWhole_whole _, Memref.whole cc0_scratch3, Memref.isWhole_whole _, Memref.whole cc0_scratch5, Memref.isWhole_whole _,
    cc0_scratch7, cc0_scratch9, cc0_scratch11⟩

variable (d : Dev nD) (c : Fin 2) (s : Fin 16)

abbrev thrOf : Thread nD τ := V d (c.castLE hcore0) (s.castLE hsub0)

theorem blk_in (f : Buf (Elt F) (oLoc d)) (g : Fin 256) :
    (oLoc d ↦[outSet g]{fullShare} f : sProp 𝕄) ⊢ Any d (c.castLE hcore0) (s.castLE hsub0) g := by
  unfold Any bufAt
  iintro H
  iexists _; iexists f
  isplitr
  swap; · iexact H
  ipureintro; rfl

theorem blk_out (x : Vec F S16x1024x1024 .f32) (g : Fin 256) :
    Fin' x d (c.castLE hcore0) (s.castLE hsub0) g ⊢ (oLoc d ↦[outSet g]{fullShare} (pooled x : Buf (Elt F) (oLoc d)) : sProp 𝕄) := by
  unfold Fin' bufAt
  iintro ⟨%f, %hf, H⟩
  have e : ∀ i ∈ outSet g, f i = pooled x i := fun i hi => by
    obtain ⟨y, -, rfl⟩ := Finset.mem_map.mp hi
    exact congrFun (hf.trans (pooled_read x g).symm) y
  iapply (Entails.of_eq (pointsTo_congr (ℓ := oLoc d) (q := fullShare) e))
  iexact H

theorem tile_body (O : CellTallies nD τ sig (HIx 1)) (W : Waits sig (HIx 1)) (hO : ∀ g, O g none = 0) :
    iprop(levAts (K (F := F)).L (K (F := F)).lev ∗ emp ∗ tilePts m d (m (oLoc d)) c s
        ∗ scopedBufs (thrOf d c s) ∗ scopedSems0 (thrOf d c s) ∗ owes (thrOf d c s) O W)
      ⊢ wp frame (wpE (defs₀ (F := F)) 𝒱₀ (thrOf d c s) none) Set.univ
          (cc0__qpool_sc_body (coordsV c s) xV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11)
          fun _ => iprop(tilePts m d (pooledAt m d) c s ∗ scopedBufs (thrOf d c s) ∗ scopedSems0 (thrOf d c s)
            ∗ ∃ W', ⌜∀ p ∈ W', p ∈ W ∨ p.2 = none⌝ ∗ owes (thrOf d c s) O W') := by
  obtain ⟨RS, hS⟩ := ownSems0_V (F := F) d (c.castLE hcore0) (s.castLE hsub0)
  obtain ⟨RB, hB⟩ := ownBufs_V (F := F) d (c.castLE hcore0) (s.castLE hsub0)
  rw [(K (F := F)).scopedBufs_V facts d (c.castLE hcore0) (s.castLE hsub0), SparseCore.Cfg.scopedSems0_V (Val := Elt F) d (c.castLE hcore0) (s.castLE hsub0), hS, hB]
  rw [show cc0__qpool_sc_body (F := F) (coordsV c s) xV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11
      = tile xV oV side₀ side₁ (coordsV c s) (firstW (coordsV c s)) lanes from body_eq ..]
  iintro ⟨#Hlv, -, ⟨Hx, Ho⟩, ⟨⟨Hb0, Hb1, Hb2, Hb3, Hb4, Hb5⟩, HRB⟩, ⟨⟨Hs0, Hs1, Hs2, Hs3, Hs4, Hs5⟩, HRS⟩, HO⟩
  ihave #Hmw := (show levAts (K (F := F)).L (K (F := F)).lev ⊢ Transfers.MayWaits (thrOf d c s) (default : HIx 1) O from
    (K (F := F)).mayWaits_none (thr := thrOf d c s) hO) $$ Hlv
  ihave Hx := (Entails.of_eq ((pointsTo_pieces (Ix := HIx 1) (Name := ℕ) (U := UU) (Lvl := ℕ) Finset.univ (m (xLoc d)) 3 (tileQ c s)).trans (bigSep_four _))) $$ Hx
  icases Hx with ⟨Hx0, Hx1, Hx2, Hx3⟩
  ihave Ho := (show blksPts d (m (oLoc d)) c s ⊢ bigSep Finset.univ fun k : Fin 8 => Any (F := F) d (c.castLE hcore0) (s.castLE hsub0) (pc (coordsV c s) k) from
    bigSep_mono fun k _ => blk_in d c s (m (oLoc d)) (blkOf (c, s, k))) $$ Ho
  ihave Hb0 := (show Loose (F := F) (thrOf d c s) cc0_scratch0 ⊢ Held (F := F) (thrOf d c s) side₀.rb from whole_in _ _) $$ Hb0
  ihave Hb1 := (show Loose (F := F) (thrOf d c s) cc0_scratch1 ⊢ Held (F := F) (thrOf d c s) side₁.rb from whole_in _ _) $$ Hb1
  ihave Hb2 := (show Loose (F := F) (thrOf d c s) cc0_scratch2 ⊢ Held (F := F) (thrOf d c s) side₀.cb from whole_in _ _) $$ Hb2
  ihave Hb3 := (show Loose (F := F) (thrOf d c s) cc0_scratch3 ⊢ Held (F := F) (thrOf d c s) side₁.cb from whole_in _ _) $$ Hb3
  ihave Hb4 := (show Loose (F := F) (thrOf d c s) cc0_scratch4 ⊢ Held (F := F) (thrOf d c s) side₀.ob from whole_in _ _) $$ Hb4
  ihave Hb5 := (show Loose (F := F) (thrOf d c s) cc0_scratch5 ⊢ Held (F := F) (thrOf d c s) side₁.ob from whole_in _ _) $$ Hb5
  iapply (wp_wand_r frame)
  isplitr [HRB HRS]
  · iapply (wp_tile (d := d) (c := c.castLE hcore0) (j := s.castLE hsub0) (x := m (xLoc d)) (i := coordsV c s) (B₀ := side₀) (B₁ := side₁)
      (q₀ := copyQ c s 0) (q₀' := copyQ c s 1) (q₁ := copyQ c s 2) (q₁' := copyQ c s 3) (O := O) (W := W))
    unfold Idle Free OW
    isplitl [Hx0 Hx1 Hx2 Hx3 Hb0 Hb1 Hb2 Hb3 Hb4 Hb5 Hs0 Hs1 Hs2 Hs3 Hs4 Hs5]
    · isplitl [Hx0 Hx1 Hb0 Hb2 Hs0 Hs2]
      · isplitl [Hx0 Hb0 Hs0]
        · isplitl [Hx0]; · iexact Hx0
          isplitl [Hb0]; · iexact Hb0
          iexact Hs0
        · isplitl [Hx1]; · iexact Hx1
          isplitl [Hb2]; · iexact Hb2
          iexact Hs2
      isplitl [Hx2 Hx3 Hb1 Hb3 Hs1 Hs3]
      · isplitl [Hx2 Hb1 Hs1]
        · isplitl [Hx2]; · iexact Hx2
          isplitl [Hb1]; · iexact Hb1
          iexact Hs1
        · isplitl [Hx3]; · iexact Hx3
          isplitl [Hb3]; · iexact Hb3
          iexact Hs3
      isplitl [Hb4 Hs4]
      · isplitl [Hb4]; · iexact Hb4
        iexact Hs4
      · isplitl [Hb5]; · iexact Hb5
        iexact Hs5
    isplitl [Ho]; · iexact Ho
    isplitr; · iexact Hmw
    iexists W
    isplitr
    · ipureintro; exact fun p hp => .inl hp
    · iexact HO
  iintro %_ H
  unfold Idle Free OW
  icases H with ⟨⟨⟨⟨Hx0, Hb0, Hs0⟩, Hx1, Hb2, Hs2⟩, ⟨⟨Hx2, Hb1, Hs1⟩, Hx3, Hb3, Hs3⟩, ⟨Hb4, Hs4⟩, Hb5, Hs5⟩, Ho, -, HO⟩
  ihave Hb0 := (show Held (F := F) (thrOf d c s) side₀.rb ⊢ Loose (F := F) (thrOf d c s) cc0_scratch0 from whole_out _ _) $$ Hb0
  ihave Hb1 := (show Held (F := F) (thrOf d c s) side₁.rb ⊢ Loose (F := F) (thrOf d c s) cc0_scratch1 from whole_out _ _) $$ Hb1
  ihave Hb2 := (show Held (F := F) (thrOf d c s) side₀.cb ⊢ Loose (F := F) (thrOf d c s) cc0_scratch2 from whole_out _ _) $$ Hb2
  ihave Hb3 := (show Held (F := F) (thrOf d c s) side₁.cb ⊢ Loose (F := F) (thrOf d c s) cc0_scratch3 from whole_out _ _) $$ Hb3
  ihave Hb4 := (show Held (F := F) (thrOf d c s) side₀.ob ⊢ Loose (F := F) (thrOf d c s) cc0_scratch4 from whole_out _ _) $$ Hb4
  ihave Hb5 := (show Held (F := F) (thrOf d c s) side₁.ob ⊢ Loose (F := F) (thrOf d c s) cc0_scratch5 from whole_out _ _) $$ Hb5
  ihave Ho := (show (bigSep Finset.univ fun k : Fin 8 => Fin' (m (xLoc d)) d (c.castLE hcore0) (s.castLE hsub0) (pc (coordsV c s) k)) ⊢ blksPts d (pooledAt m d) c s from
    bigSep_mono fun k _ => blk_out d c s (m (xLoc d)) (blkOf (c, s, k))) $$ Ho
  isplitl [Hx0 Hx1 Hx2 Hx3 Ho]
  · isplitl [Hx0 Hx1 Hx2 Hx3]
    · iapply (Entails.of_eq ((pointsTo_pieces (Ix := HIx 1) (Name := ℕ) (U := UU) (Lvl := ℕ) Finset.univ (m (xLoc d)) 3 (tileQ c s)).trans (bigSep_four _)).symm)
      isplitl [Hx0]; · iexact Hx0
      isplitl [Hx1]; · iexact Hx1
      isplitl [Hx2]; · iexact Hx2
      iexact Hx3
    · iexact Ho
  isplitl [HRB Hb0 Hb1 Hb2 Hb3 Hb4 Hb5]
  · isplitr [HRB]
    · isplitl [Hb0]; · iexact Hb0
      isplitl [Hb1]; · iexact Hb1
      isplitl [Hb2]; · iexact Hb2
      isplitl [Hb3]; · iexact Hb3
      isplitl [Hb4]; · iexact Hb4
      iexact Hb5
    · iexact HRB
  isplitl [HRS Hs0 Hs1 Hs2 Hs3 Hs4 Hs5]
  · isplitr [HRS]
    · isplitl [Hs0]; · iexact Hs0
      isplitl [Hs1]; · iexact Hs1
      isplitl [Hs2]; · iexact Hs2
      isplitl [Hs3]; · iexact Hs3
      isplitl [Hs4]; · iexact Hs4
      iexact Hs5
    · iexact HRS
  iexact HO

end Tile

end Cert.Proof.Pool
-- ==== Proof.Run.lean ====
/-
  The run of the whole program: the launch's obligations met by the tile's proof, @main's one call, and what the final
  memory holds — the arguments as they were, the result array at `pooled` of the input, every semaphore down.
-/
module

public import proofs.«01_k».proof.Proof.Launch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The obligations -/

theorem defs₀_vector (c : Fin τ.nSC) (s : Fin τ.nSub) :
    defs₀ (F := F) (.scVector c s) 0 ()
      = SparseCore.onTile hcore0 hsub0 (fun c s => cc0__qpool_sc_body (coordsV c s) xV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d ⟨_, hci.1⟩ ⟨_, hci.2⟩ O W hO).trans (wp_mono frame _ _ fun _ => obl_post)

theorem vecSplit : (K (F := F)).VecSplit' (P m) 0 := by
  intro d c
  show corePts m d (m (oLoc d)) c ⊢ |={Set.univ}=> iprop((bigSep Finset.univ fun i : Fin 16 => tilePts m d (m (oLoc d)) c i)
      ∗ ((bigSep Finset.univ fun i : Fin 16 => tilePts m d (pooledAt m d) c i) -∗ corePts m d (pooledAt m d) c))
  rw [tile_split m d (m (oLoc d)) c, tile_split m d (pooledAt m d) c]
  iintro H; imodintro
  isplitl [H]; · iexact H
  iintro H; iexact H

/-! ## The launch element of the certificate's ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

/-- One of @main's arrays, whole, at `W`. -/
abbrev arr (d : Dev nD) (b : Ref sig .tc) (f : Buf (Elt F) ((SparseCore.T d : Thread nD τ).loc b)) : sProp 𝕄 := (SparseCore.T d : Thread nD τ).loc b ↦{fullShare} f

omit [FloatOps F] in
theorem unscopedBufs_eq (d : Dev nD) (W : (b : Ref sig .tc) → Buf (Elt F) ((d.tc : Thread nD τ).loc b)) :
    (unscopedBufs d W : sProp 𝕄) = iprop(arr d main_arg0 (W main_arg0) ∗ arr d main_arg1 (W main_arg1) ∗ arr d main_arg2 (W main_arg2)
      ∗ arr d main_arg3 (W main_arg3) ∗ arr d main_arg4 (W main_arg4) ∗ arr d main_v0 (W main_v0)) := by
  unfold unscopedBufs
  rw [show (Finset.univ.filter fun b : Ref sig .tc => ¬ b.isScoped) = {main_arg0, main_arg1, main_arg2, main_arg3, main_arg4, main_v0} by decide,
    SparseCore.bigSep_insert' (by decide), SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c) = iprop((xLoc d ↦{fullShare} m (xLoc d)) ∗ (oLoc d ↦{fullShare} m (oLoc d))) :=
  (core_split m d (m (oLoc d))).symm
theorem dn0_eq (d : Dev nD) : (bigSep Finset.univ fun c : Fin ((K (F := F)).nCore 0) => (P m).dn 0 d c) = iprop((xLoc d ↦{fullShare} m (xLoc d)) ∗ (oLoc d ↦{fullShare} pooledAt m d)) :=
  (core_split m d (pooledAt m d)).symm

/-- What @main leaves: its arguments as they were, the result at the kernel's values. -/
abbrev FIN (d : Dev nD) : sProp 𝕄 := iprop(arr d main_arg0 (m ((SparseCore.T d).loc main_arg0)) ∗ arr d main_arg1 (m ((SparseCore.T d).loc main_arg1))
  ∗ arr d main_arg2 (m ((SparseCore.T d).loc main_arg2)) ∗ arr d main_arg3 (m ((SparseCore.T d).loc main_arg3)) ∗ arr d main_arg4 (m ((SparseCore.T d).loc main_arg4))
  ∗ arr d main_v0 (pooledAt m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, Ho⟩, Hts, -⟩, -⟩
  iapply ((K (F := F)).wp_run (D (F := F)) 𝒱 (EH := EH) (P := P m) κ d 0) $$ [Hst H0 H1 H2 H3 H4 Ho Hb Hts]
  isplitr; · iexact Hctx
  isplitl [Hst]; · iexact Hst
  isplitl [H0 Ho]
  · rw [st0_eq]
    isplitl [H0]; · iexact H0
    iexact Ho
  iintro ⟨Hst, Hdn⟩
  ihave Hdn' := (Entails.of_eq (dn0_eq m d)) $$ Hdn
  icases Hdn' with ⟨H0, Ho⟩
  imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    iexact Ho
  isplitl [Hb] <;> iassumption

/-- What the final memory then holds on device `d`. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4)) ∧ s'.mem.mem ((SparseCore.T d).loc main_v0) = pooledAt m d

omit [FloatOps F] in
/-- An array held whole is what the memory holds. -/
theorem arr_agree (d : Dev nD) (b : Ref sig .tc) (f : Buf (Elt F) ((SparseCore.T d : Thread nD τ).loc b)) (s' : Phys nD τ sig (Elt F)) :
    iprop(arr d b f ∗ SI s') ⊢ (iprop(⌜s'.mem.mem ((SparseCore.T d).loc b) = f⌝ ∗ SI s') : sProp 𝕄) := by
  iintro ⟨H, HSI⟩
  ihave H := (persistent_entails_right (SI_pointsTo_agree (st := s') (ℓ := (SparseCore.T d).loc b) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, Ho⟩, HSI⟩
  ihave H := (arr_agree d main_arg0 _ s') $$ [H0 HSI]
  · isplitl [H0] <;> iassumption
  icases H with ⟨%h0, HSI⟩
  ihave H := (arr_agree d main_arg1 _ s') $$ [H1 HSI]
  · isplitl [H1] <;> iassumption
  icases H with ⟨%h1, HSI⟩
  ihave H := (arr_agree d main_arg2 _ s') $$ [H2 HSI]
  · isplitl [H2] <;> iassumption
  icases H with ⟨%h2, HSI⟩
  ihave H := (arr_agree d main_arg3 _ s') $$ [H3 HSI]
  · isplitl [H3] <;> iassumption
  icases H with ⟨%h3, HSI⟩
  ihave H := (arr_agree d main_arg4 _ s') $$ [H4 HSI]
  · isplitl [H4] <;> iassumption
  icases H with ⟨%h4, HSI⟩
  ihave H := (arr_agree d main_v0 _ s') $$ [Ho HSI]
  · isplitl [Ho] <;> iassumption
  icases H with ⟨%ho, -⟩
  ipureintro; exact ⟨⟨h0, h1, h2, h3, h4⟩, ho⟩

/-! ## The program's run -/

def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem ((SparseCore.T d).loc main_arg4) = m ((SparseCore.T d).loc main_arg4)) ∧ r.2.mem ((SparseCore.T d).loc main_v0) = pooledAt m d)
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool
-- ==== Proof.Table.lean ====
/-
  The index table. What `problem_indices` says of the four index vectors, read as facts about numbers: the pairs
  `(mask_x l, mask_y l)` are the mask's entries, each once, and `new_x`, `new_y` are where an entry is pooled to.
-/
module

public import proofs.«01_k».proof.Pre_problem_indices
public import Idealize.ShloMosaic.Lib.Routing.OpsPair
public import Idealize.ShloMosaic.Lib.WordCmp
public import Idealize.ShloMosaic.Lib.Pipeline.Value
public import Idealize.ShloMosaic.Lib.Pointwise.Index

@[expose] public section

noncomputable section

namespace Cert.Proof.Pool

open Idealize.ShloMosaic

/-- The index vectors' shape, a column of it, and a table of pairs. -/
abbrev Ents : Shape := ⟨1, ![73984]⟩
abbrev Ents1 : Shape := ⟨2, ![73984, 1]⟩
abbrev Ents2 : Shape := ⟨2, ![73984, 2]⟩

/-! ## Numbers -/

/-- Where row or column `n` of the input is pooled to. -/
def poolN (n : ℕ) : ℕ := n / 32 / 2 * 16 + n % 32 / 2
/-- Two coordinates of a mask entry: of one parity, and equal where odd. -/
def Co (a b : ℕ) : Prop := a % 2 = b % 2 ∧ (a % 2 = 1 → a = b)
instance (a b : ℕ) : Decidable (Co a b) := inferInstanceAs (Decidable (_ ∧ _))
/-- `(x, y)` is an entry of the mask. -/
def Entry (x y : ℕ) : Prop := Co (x / 32) (y / 32) ∧ Co (x % 32) (y % 32)
instance (x y : ℕ) : Decidable (Entry x y) := inferInstanceAs (Decidable (_ ∧ _))

theorem poolN_lt {n : ℕ} (h : n < 1024) : poolN n < 256 := by unfold poolN; omega

/-! ## Words -/

abbrev quoW (v : BitVec 32) : BitVec 32 := IntOp.divsi .host v 32#32
abbrev remW (v : BitVec 32) : BitVec 32 := IntOp.remsi .host v 32#32
abbrev oddW (v : BitVec 32) : BitVec 1 := IntOp.cmpi .ne (IntOp.remsi .host v 2#32) 0#32
abbrev halfW (v : BitVec 32) : BitVec 32 := IntOp.divsi .host v 2#32
/-- The pooled position, as a word. -/
abbrev poolW (v : BitVec 32) : BitVec 32 := IntOp.addi (IntOp.muli (halfW (quoW v)) 16#32) (halfW (remW v))
/-- One coordinate's part of the mask. -/
abbrev coW (a b : BitVec 32) : BitVec 1 := IntOp.andi (IntOp.cmpi .eq (oddW a) (oddW b)) (IntOp.ori (~~~(oddW a)) (IntOp.cmpi .eq a b))
/-- The mask's bit, as the precondition computes it. -/
abbrev maskW (x y : BitVec 32) : BitVec 1 :=
  IntOp.andi (IntOp.andi (IntOp.andi (IntOp.cmpi .eq (oddW (quoW x)) (oddW (quoW y))) (IntOp.cmpi .eq (oddW (remW x)) (oddW (remW y))))
    (IntOp.ori (~~~(oddW (quoW x))) (IntOp.cmpi .eq (quoW x) (quoW y)))) (IntOp.ori (~~~(oddW (remW x))) (IntOp.cmpi .eq (remW x) (remW y)))

theorem poolW_ofNat : ∀ n : Fin 1024, (poolW (BitVec.ofNat 32 n)).toNat = poolN n := by decide +kernel
theorem quoW_ofNat : ∀ n : Fin 1024, quoW (BitVec.ofNat 32 n) = BitVec.ofNat 32 (n / 32) := by decide +kernel
theorem remW_ofNat : ∀ n : Fin 1024, remW (BitVec.ofNat 32 n) = BitVec.ofNat 32 (n % 32) := by decide +kernel
theorem coW_ofNat : ∀ a b : Fin 32, coW (BitVec.ofNat 32 a) (BitVec.ofNat 32 b) = if Co a b then 1#1 else 0#1 := by decide +kernel

theorem and_four : ∀ p q r s : BitVec 1, IntOp.andi (IntOp.andi (IntOp.andi p q) r) s = IntOp.andi (IntOp.andi p r) (IntOp.andi q s) := by decide
theorem and_one : ∀ p q : BitVec 1, IntOp.andi p q = 1#1 → p = 1#1 ∧ q = 1#1 := by decide

theorem maskW_ofNat (x y : Fin 1024) : maskW (BitVec.ofNat 32 x) (BitVec.ofNat 32 y) = if Entry x y then 1#1 else 0#1 := by
  refine (and_four _ _ _ _).trans ?_
  show IntOp.andi (coW (quoW _) (quoW _)) (coW (remW _) (remW _)) = _
  rw [quoW_ofNat, quoW_ofNat, remW_ofNat, remW_ofNat,
    coW_ofNat ⟨x / 32, by omega⟩ ⟨y / 32, by omega⟩, coW_ofNat ⟨x % 32, by omega⟩ ⟨y % 32, by omega⟩]
  unfold Entry
  by_cases h1 : Co (x / 32) (y / 32) <;> by_cases h2 : Co (x % 32) (y % 32) <;> simp [h1, h2] <;> decide

theorem poolW_toNat (v : BitVec 32) (h : v.toNat < 1024) : (poolW v).toNat = poolN v.toNat := by
  have := poolW_ofNat ⟨v.toNat, h⟩
  simpa using this

/-- A word the precondition finds in range. -/
theorem range_of {v : BitVec 32} (h0 : IntOp.cmpi .sge v 0#32 = 1#1) (h1 : IntOp.cmpi .slt v 1024#32 = 1#1) : v.toNat < 1024 := by
  rw [WordCmp.cmpi_sge_eq] at h0
  rw [WordCmp.cmpi_slt_eq] at h1
  have a : (0#32 : BitVec 32).toInt ≤ v.toInt := by
    by_contra c; rw [decide_eq_false c] at h0; exact absurd h0 (by decide)
  have b : v.toInt < (1024#32 : BitVec 32).toInt := by
    by_contra c; rw [decide_eq_false c] at h1; exact absurd h1 (by decide)
  rw [show (0#32 : BitVec 32).toInt = 0 from by decide] at a
  rw [show (1024#32 : BitVec 32).toInt = 1024 from by decide] at b
  have := v.isLt
  rw [BitVec.toInt_eq_toNat_cond] at a b
  split at a <;> omega

theorem eq_of_cmpi {w : ℕ} {x y : BitVec w} (h : IntOp.cmpi .eq x y = 1#1) : x = y := by
  rw [WordCmp.cmpi_eq_eq] at h
  by_contra c
  rw [decide_eq_false c] at h
  exact absurd h (by decide)

/-! ## A table of pairs of words -/

/-- An index vector with its negative words wrapped by `n`. -/
abbrev wrapped (n : BitVec 32) (hb : (⟨0, ![]⟩ : Shape).BroadcastsInDim Ents (![] : Fin 0 → Fin 1)) (a : IVec Ents 32) : IVec Ents 32 :=
  select (cmpi .slt a (broadcastInDim Ents ![] hb (constantI (⟨0, ![]⟩ : Shape) 32 0#32))) (addi a (broadcastInDim Ents ![] hb (constantI (⟨0, ![]⟩ : Shape) 32 n))) a
/-- Two index vectors as a table of pairs. -/
abbrev pairs (h1 : Ents.BroadcastsInDim Ents1 (![0] : Fin 1 → Fin 2)) (hc : Shape.Concatenates [Ents1, Ents1] Ents2 1) (a b : IVec Ents 32) : IVec Ents2 32 :=
  concatenate Ents2 1 [⟨Ents1, broadcastInDim Ents1 ![0] h1 a⟩, ⟨Ents1, broadcastInDim Ents1 ![0] h1 b⟩] hc

theorem column_at (h1 : Ents.BroadcastsInDim Ents1 (![0] : Fin 1 → Fin 2)) (a : IVec Ents 32) (l : Fin 73984) :
    broadcastInDim Ents1 ![0] h1 a (ix2 l 0) = a (ix1 l) := by
  unfold broadcastInDim
  refine congrArg a (funext fun k => ?_)
  match k with
  | ⟨0, _⟩ => rfl

theorem pairs_fst (h1 : Ents.BroadcastsInDim Ents1 (![0] : Fin 1 → Fin 2)) (hc : Shape.Concatenates [Ents1, Ents1] Ents2 1) (a b : IVec Ents 32) (l : Fin 73984) :
    pairs h1 hc a b (ix2 l 0) = a (ix1 l) := by
  refine (concatenate_pair_apply_left (s₁ := Ents1) (s₂ := Ents1) (1 : Fin 2) _ _ hc (ix2 l (0 : Fin 2)) rfl (ix2 l (0 : Fin 1)) ?_).trans (column_at h1 a l)
  intro k
  match k with
  | ⟨0, _⟩ => rfl
  | ⟨1, _⟩ => rfl

theorem pairs_snd (h1 : Ents.BroadcastsInDim Ents1 (![0] : Fin 1 → Fin 2)) (hc : Shape.Concatenates [Ents1, Ents1] Ents2 1) (a b : IVec Ents 32) (l : Fin 73984) :
    pairs h1 hc a b (ix2 l 1) = b (ix1 l) := by
  refine (concatenate_pair_apply_right (s₁ := Ents1) (s₂ := Ents1) (1 : Fin 2) _ _ hc (ix2 l (1 : Fin 2)) rfl rfl (ix2 l (0 : Fin 1)) ?_ rfl).trans (column_at h1 b l)
  intro k hk
  match k with
  | ⟨0, _⟩ => rfl
  | ⟨1, _⟩ => exact absurd rfl hk

theorem wrapped_at (n : BitVec 32) (hb : (⟨0, ![]⟩ : Shape).BroadcastsInDim Ents (![] : Fin 0 → Fin 1)) (a : IVec Ents 32) (l : Fin 73984)
    (h : (a (ix1 l)).toNat < 1024) : wrapped n hb a (ix1 l) = a (ix1 l) :=
  Routing.wrap_of_lt (a (ix1 l)) (a (ix1 l) + n) (by omega)

theorem toInt_small {v : BitVec 32} (h : v.toNat < 1024) : v.toInt = (v.toNat : ℤ) := by
  rw [BitVec.toInt_eq_toNat_cond, if_pos (by omega)]

/-! ## A sum of ones -/

/-- A fold that adds one at each hit counts the hits. -/
theorem fold_ones {ι : Type} (P : ι → Prop) [DecidablePred P] (L : List ι) (c : ℕ) :
    L.foldl (fun a n => if P n then IntOp.addi a 1#32 else a) (BitVec.ofNat 32 c) = BitVec.ofNat 32 (c + L.countP fun n => decide (P n)) := by
  induction L generalizing c with
  | nil => rfl
  | cons n L ih =>
    rw [List.foldl_cons, List.countP_cons]
    by_cases h : P n
    · rw [if_pos h, show IntOp.addi (BitVec.ofNat 32 c) 1#32 = BitVec.ofNat 32 (c + 1) from (BitVec.ofNat_add c 1).symm, ih]
      simp only [h, decide_true, if_true]
      congr 1; omega
    · rw [if_neg h, ih]
      simp [h]

theorem count_finRange {N : ℕ} (P : Fin N → Prop) [DecidablePred P] :
    (List.finRange N).countP (fun n => decide (P n)) = (Finset.univ.filter P).card := by
  rw [List.countP_eq_length_filter]; rfl

/-! ## What the precondition says -/

section Pre

variable [Cert.Pre_problem_indices.Facts] {F : FTy → Type} [FloatOps F]
open Cert.Pre_problem_indices (fn scatter_S1024x1024_S73984x2_S73984_n_01_01_1)
open Cert.Pre_problem_indices.Facts

variable (x0 : FVec F (⟨3, ![16, 1024, 1024]⟩ : Shape) .f32) (a1 a2 a3 a4 : IVec Ents 32)

/-- The mask as the precondition computes it, and the counts it is compared with. -/
abbrev maskV : IVec (⟨2, ![1024, 1024]⟩ : Shape) 1 := fun i => maskW (BitVec.ofNat 32 (i 0).val) (BitVec.ofNat 32 (i 1).val)
abbrev counts : IVec (⟨2, ![1024, 1024]⟩ : Shape) 32 :=
  Host.scatter scatter_S1024x1024_S73984x2_S73984_n_01_01_1 IntOp.addi (broadcastInDim (⟨2, ![1024, 1024]⟩ : Shape) ![] bcast_S_S1024x1024 (constantI (⟨0, ![]⟩ : Shape) 32 0#32))
    (pairs bcast_S73984_S73984x1_0 concatenates_S73984x1_S73984x1_S73984x2_d1 (wrapped 1024#32 bcast_S_S73984 a1) (wrapped 1024#32 bcast_S_S73984 a2))
    (broadcastInDim Ents ![] bcast_S_S73984 (constantI (⟨0, ![]⟩ : Shape) 32 1#32))

theorem fn_fst : (fn x0 a1 a2 a3 a4).1 = cmpi .eq (counts a1 a2) (extui 32 maskV natLt_1_32) := by
  unfold fn Cert.Pre_problem_indices.fn_part1 Cert.Pre_problem_indices.fn_part2 Cert.Pre_problem_indices.fn_part3
    Cert.Pre_problem_indices.fn_part4 Cert.Pre_problem_indices.fn_part5
  dsimp only
  refine congrArg₂ (cmpi .eq) ?_ ?_
  · refine congrArg₂ (fun x i => Host.scatter scatter_S1024x1024_S73984x2_S73984_n_01_01_1 IntOp.addi x i _) ?_ ?_
    · rfl
    · rfl
  · refine congrArg (fun v => extui 32 v natLt_1_32) ?_
    rfl

theorem fn_snd (l : Fin 73984) : (fn x0 a1 a2 a3 a4).2 (ix1 l)
    = IntOp.andi (IntOp.andi (IntOp.andi
        (IntOp.andi (IntOp.cmpi .sge (a1 (ix1 l)) 0#32) (IntOp.cmpi .slt (a1 (ix1 l)) 1024#32))
        (IntOp.andi (IntOp.cmpi .sge (a2 (ix1 l)) 0#32) (IntOp.cmpi .slt (a2 (ix1 l)) 1024#32)))
        (IntOp.cmpi .eq (a3 (ix1 l)) (poolW (a1 (ix1 l))))) (IntOp.cmpi .eq (a4 (ix1 l)) (poolW (a2 (ix1 l)))) := rfl

/-- Entry `l` of the count lands at `(x, y)` exactly when its two words are `x` and `y`. -/
theorem count_lands (idx : IVec Ents2 32) (l : Fin 73984) (x y : Fin 1024) :
    Iff (scatter_S1024x1024_S73984x2_S73984_n_01_01_1.resultIdx? (ix1 l) idx = some (ix2 x y))
      ((idx (ix2 l 0)).toInt = (x.val : ℤ) ∧ (idx (ix2 l 1)).toInt = (y.val : ℤ)) := by
  have s0 : scatter_S1024x1024_S73984x2_S73984_n_01_01_1.start (ix1 l) idx (0 : Fin 2) = (idx (ix2 l 0)).toInt := by
    unfold ScatterDims.start
    refine (dif_pos (show (0 : Fin 2) ∈ [(0 : Fin 2), 1] from by decide)).trans ?_
    refine congrArg (fun i => (idx i).toInt) (funext fun k => ?_)
    match k with
    | ⟨0, _⟩ => rfl
    | ⟨1, _⟩ => rfl
  have s1 : scatter_S1024x1024_S73984x2_S73984_n_01_01_1.start (ix1 l) idx (1 : Fin 2) = (idx (ix2 l 1)).toInt := by
    unfold ScatterDims.start
    refine (dif_pos (show (1 : Fin 2) ∈ [(0 : Fin 2), 1] from by decide)).trans ?_
    refine congrArg (fun i => (idx i).toInt) (funext fun k => ?_)
    match k with
    | ⟨0, _⟩ => rfl
    | ⟨1, _⟩ => rfl
  have w : ∀ q : Fin 2, scatter_S1024x1024_S73984x2_S73984_n_01_01_1.window (ix1 l) q = 0 := fun q => by
    fin_cases q <;> rfl
  refine (Routing.resultIdx?_ix2 _ (ix1 l) idx x y).trans ?_
  rw [s0, s1, w 0, w 1]
  simp

end Pre

/-- The index vectors are a table of the mask: in range, the pooled positions beside them, every entry once. -/
structure Table (a1 a2 a3 a4 : IVec Ents 32) : Prop where
  lt1 : ∀ l, (a1 (ix1 l)).toNat < 1024
  lt2 : ∀ l, (a2 (ix1 l)).toNat < 1024
  new1 : ∀ l, (a3 (ix1 l)).toNat = poolN (a1 (ix1 l)).toNat
  new2 : ∀ l, (a4 (ix1 l)).toNat = poolN (a2 (ix1 l)).toNat
  entry : ∀ l, Entry (a1 (ix1 l)).toNat (a2 (ix1 l)).toNat
  once : ∀ l l', (a1 (ix1 l)).toNat = (a1 (ix1 l')).toNat → (a2 (ix1 l)).toNat = (a2 (ix1 l')).toNat → l = l'
  all : ∀ x y : Fin 1024, Entry x y → ∃ l, (a1 (ix1 l)).toNat = x.val ∧ (a2 (ix1 l)).toNat = y.val

theorem table_of [Cert.Pre_problem_indices.Facts] {F : FTy → Type} [FloatOps F] (x0 : FVec F (⟨3, ![16, 1024, 1024]⟩ : Shape) .f32) (a1 a2 a3 a4 : IVec Ents 32)
    (hm : (Cert.Pre_problem_indices.fn x0 a1 a2 a3 a4).1 = fun _ => 1#1) (hr : (Cert.Pre_problem_indices.fn x0 a1 a2 a3 a4).2 = fun _ => 1#1) :
    Table a1 a2 a3 a4 := by
  have hr' := fun l : Fin 73984 => (fn_snd x0 a1 a2 a3 a4 l).symm.trans (congrFun hr (ix1 l))
  have lt1 : ∀ l, (a1 (ix1 l)).toNat < 1024 := fun l =>
    have h := (and_one _ _ (and_one _ _ (and_one _ _ (and_one _ _ (hr' l)).1).1).1)
    range_of h.1 h.2
  have lt2 : ∀ l, (a2 (ix1 l)).toNat < 1024 := fun l =>
    have h := (and_one _ _ (and_one _ _ (and_one _ _ (and_one _ _ (hr' l)).1).1).2)
    range_of h.1 h.2
  have new1 : ∀ l, (a3 (ix1 l)).toNat = poolN (a1 (ix1 l)).toNat := fun l => by
    rw [eq_of_cmpi (and_one _ _ (and_one _ _ (hr' l)).1).2]; exact poolW_toNat _ (lt1 l)
  have new2 : ∀ l, (a4 (ix1 l)).toNat = poolN (a2 (ix1 l)).toNat := fun l => by
    rw [eq_of_cmpi (and_one _ _ (hr' l)).2]; exact poolW_toNat _ (lt2 l)
  -- the number of entries of the table at `(x, y)` is the mask's bit
  have key : ∀ x y : Fin 1024, (Finset.univ.filter fun n : Fin Ents.numel =>
      (a1 (Ents.rowMajor.symm n)).toNat = x.val ∧ (a2 (Ents.rowMajor.symm n)).toNat = y.val).card = if Entry x y then 1 else 0 := fun x y => by
    have h := eq_of_cmpi (congrFun ((fn_fst x0 a1 a2 a3 a4).symm.trans hm) (ix2 x y))
    have hs : counts a1 a2 (ix2 x y) = (List.finRange Ents.numel).foldl (fun a n => if (a1 (Ents.rowMajor.symm n)).toNat = x.val
        ∧ (a2 (Ents.rowMajor.symm n)).toNat = y.val then IntOp.addi a 1#32 else a) (BitVec.ofNat 32 0) := by
      refine (Routing.scatter_at _ _ _ _ _ _).trans ?_
      refine congrArg (fun f => List.foldl f (BitVec.ofNat 32 0) (List.finRange Ents.numel)) (funext fun a => funext fun n => ?_)
      refine if_congr ?_ rfl rfl
      obtain ⟨l, hl⟩ : ∃ l : Fin 73984, Ents.rowMajor.symm n = ix1 l := ⟨_, eq_ix1 _⟩
      rw [hl]
      refine (count_lands _ _ x y).trans ?_
      rw [pairs_fst, pairs_snd, wrapped_at _ _ _ _ (lt1 _), wrapped_at _ _ _ _ (lt2 _), toInt_small (lt1 _), toInt_small (lt2 _)]
      omega
    have h : _ = BitVec.setWidth 32 (if Entry x y then 1#1 else 0#1) := hs.symm.trans (h.trans (congrArg (BitVec.setWidth 32) (maskW_ofNat x y)))
    have hc := fold_ones (fun n : Fin Ents.numel => (a1 (Ents.rowMajor.symm n)).toNat = x.val ∧ (a2 (Ents.rowMajor.symm n)).toNat = y.val) (List.finRange Ents.numel) 0
    rw [count_finRange, Nat.zero_add] at hc
    have h2 := congrArg BitVec.toNat (hc.symm.trans h)
    have hle := Finset.card_filter_le (Finset.univ : Finset (Fin Ents.numel)) fun n => (a1 (Ents.rowMajor.symm n)).toNat = x.val ∧ (a2 (Ents.rowMajor.symm n)).toNat = y.val
    rw [Finset.card_univ, Fintype.card_fin] at hle
    replace hle := hle.trans_eq (show Ents.numel = 73984 from by decide)
    rw [BitVec.toNat_ofNat, Nat.mod_eq_of_lt (by omega)] at h2
    rw [h2]
    split <;> rfl
  refine ⟨lt1, lt2, new1, new2, fun l => ?_, fun l l' e1 e2 => ?_, fun x y hxy => ?_⟩
  · by_contra c
    have := key ⟨_, lt1 l⟩ ⟨_, lt2 l⟩
    rw [if_neg c, Finset.card_eq_zero, Finset.filter_eq_empty_iff] at this
    refine this (Finset.mem_univ (Ents.rowMajor (ix1 l))) ?_
    rw [Equiv.symm_apply_apply]
    exact ⟨rfl, rfl⟩
  · have hk := key ⟨_, lt1 l⟩ ⟨_, lt2 l⟩
    have hle : (Finset.univ.filter fun n : Fin Ents.numel => (a1 (Ents.rowMajor.symm n)).toNat = (a1 (ix1 l)).toNat
        ∧ (a2 (Ents.rowMajor.symm n)).toNat = (a2 (ix1 l)).toNat).card ≤ 1 := by
      rw [hk]; split <;> omega
    have := Finset.card_le_one.1 hle (Ents.rowMajor (ix1 l)) (by simp) (Ents.rowMajor (ix1 l')) (by simp [e1, e2])
    have := congrFun (Ents.rowMajor.injective this) 0
    exact this
  · have hk := key x y
    rw [if_pos hxy] at hk
    obtain ⟨n, hn⟩ := Finset.card_pos.1 (by rw [hk]; exact Nat.one_pos)
    have hn := (Finset.mem_filter.1 hn).2
    refine ⟨(Ents.rowMajor.symm n) 0, ?_⟩
    rw [← eq_ix1 (Ents.rowMajor.symm n)]
    exact hn

end Cert.Proof.Pool

end
-- ==== Proof.Sum.lean ====
/-
  The reference's value over the extended reals: at output position `(X, Y)` the sum, over the entries of the index
  table pooled there, of the input's elements; and, the table being the mask's, that this is the sum of at most four
  elements whose positions are read off `X` and `Y`.
-/
module

public import proofs.«01_k».proof.Proof.Table
public import proofs.«01_k».proof.ReferenceIdeal
public import Idealize.ShloMosaic.PureOps.Ideal

@[expose] public section

noncomputable section

namespace Cert.Proof.Pool

open Idealize.ShloMosaic

/-- The input read by number. -/
abbrev rdX (x : FVec Ideal (⟨3, ![16, 1024, 1024]⟩ : Shape) .f32) (b : Fin 16) (r c : ℕ) : EReal :=
  x (ix3 b (Fin.ofNat 1024 r) (Fin.ofNat 1024 c))

section Reads

variable [Cert.ReferenceIdeal.Facts]
open Cert.ReferenceIdeal (scatter_S16x256x256_S73984x2_S16x73984_0_12_12_1 gather_S16x1024x1024_S73984x2_S16x73984_0_12_n_n_12_1_1611)

/-- Update `(b, l)` lands at `(B, X, Y)` exactly when `b` is `B` and entry `l`'s two words are `X` and `Y`. -/
theorem update_lands (idx : IVec Ents2 32) (b : Fin 16) (l : Fin 73984) (B : Fin 16) (X Y : Fin 256) :
    Iff (scatter_S16x256x256_S73984x2_S16x73984_0_12_12_1.resultIdx? (ix2 b l) idx = some (ix3 B X Y))
      (b = B ∧ (idx (ix2 l 0)).toInt = (X.val : ℤ) ∧ (idx (ix2 l 1)).toInt = (Y.val : ℤ)) := by
  have s0 : scatter_S16x256x256_S73984x2_S16x73984_0_12_12_1.start (ix2 b l) idx (0 : Fin 3) = 0 := by
    unfold ScatterDims.start
    exact dif_neg (show ¬ (0 : Fin 3) ∈ [(1 : Fin 3), 2] from by decide)
  have s1 : scatter_S16x256x256_S73984x2_S16x73984_0_12_12_1.start (ix2 b l) idx (1 : Fin 3) = (idx (ix2 l 0)).toInt := by
    unfold ScatterDims.start
    refine (dif_pos (show (1 : Fin 3) ∈ [(1 : Fin 3), 2] from by decide)).trans ?_
    refine congrArg (fun i => (idx i).toInt) (funext fun k => ?_)
    match k with
    | ⟨0, _⟩ => rfl
    | ⟨1, _⟩ => rfl
  have s2 : scatter_S16x256x256_S73984x2_S16x73984_0_12_12_1.start (ix2 b l) idx (2 : Fin 3) = (idx (ix2 l 1)).toInt := by
    unfold ScatterDims.start
    refine (dif_pos (show (2 : Fin 3) ∈ [(1 : Fin 3), 2] from by decide)).trans ?_
    refine congrArg (fun i => (idx i).toInt) (funext fun k => ?_)
    match k with
    | ⟨0, _⟩ => rfl
    | ⟨1, _⟩ => rfl
  have w0 : scatter_S16x256x256_S73984x2_S16x73984_0_12_12_1.window (ix2 b l) (0 : Fin 3) = b.val := rfl
  have w1 : scatter_S16x256x256_S73984x2_S16x73984_0_12_12_1.window (ix2 b l) (1 : Fin 3) = 0 := rfl
  have w2 : scatter_S16x256x256_S73984x2_S16x73984_0_12_12_1.window (ix2 b l) (2 : Fin 3) = 0 := rfl
  refine (Routing.resultIdx?_eq_some _ (ix2 b l) idx (ix3 B X Y)).trans ⟨fun h => ?_, fun h a => ?_⟩
  · have h0 := h (0 : Fin 3)
    have h1 := h (1 : Fin 3)
    have h2 := h (2 : Fin 3)
    rw [s0, w0, Int.zero_add] at h0
    rw [s1, w1] at h1
    rw [s2, w2] at h2
    refine ⟨Fin.ext (Int.ofNat.inj h0), ?_, ?_⟩
    · simpa using h1
    · simpa using h2
  · obtain ⟨rfl, h1, h2⟩ := h
    match a with
    | ⟨0, _⟩ => exact (congrArg₂ (fun (p : ℤ) (q : ℕ) => p + (q : ℤ)) s0 w0).trans (Int.zero_add _)
    | ⟨1, _⟩ => exact (congrArg₂ (fun (p : ℤ) (q : ℕ) => p + (q : ℤ)) s1 w1).trans ((Int.add_zero _).trans h1)
    | ⟨2, _⟩ => exact (congrArg₂ (fun (p : ℤ) (q : ℕ) => p + (q : ℤ)) s2 w2).trans ((Int.add_zero _).trans h2)

/-- Element `(b, l)` of the gathered values is the input's at entry `l`'s two words. -/
theorem gathered_at (x : FVec Ideal (⟨3, ![16, 1024, 1024]⟩ : Shape) .f32) (idx : IVec Ents2 32) (b : Fin 16) (l : Fin 73984) (u v : ℕ)
    (hu : (idx (ix2 l 0)).toInt = (u : ℤ)) (hv : (idx (ix2 l 1)).toInt = (v : ℤ)) (lu : u < 1024) (lv : v < 1024) :
    Host.gather gather_S16x1024x1024_S73984x2_S16x73984_0_12_n_n_12_1_1611 x idx (ix2 b l) = rdX x b u v := by
  have s1 : gather_S16x1024x1024_S73984x2_S16x73984_0_12_n_n_12_1_1611.start (ix2 b l) idx (1 : Fin 3) = min (idx (ix2 l 0)).toInt.toNat 1023 := by
    unfold GatherDims.start
    refine (dif_pos (show (1 : Fin 3) ∈ [(1 : Fin 3), 2] from by decide)).trans ?_
    refine congrArg (fun i => min (idx i).toInt.toNat 1023) (funext fun k => ?_)
    match k with
    | ⟨0, _⟩ => rfl
    | ⟨1, _⟩ => rfl
  have s2 : gather_S16x1024x1024_S73984x2_S16x73984_0_12_n_n_12_1_1611.start (ix2 b l) idx (2 : Fin 3) = min (idx (ix2 l 1)).toInt.toNat 1023 := by
    unfold GatherDims.start
    refine (dif_pos (show (2 : Fin 3) ∈ [(1 : Fin 3), 2] from by decide)).trans ?_
    refine congrArg (fun i => min (idx i).toInt.toNat 1023) (funext fun k => ?_)
    match k with
    | ⟨0, _⟩ => rfl
    | ⟨1, _⟩ => rfl
  rw [hu] at s1
  rw [hv] at s2
  unfold Host.gather
  refine congrArg x (funext fun k => Fin.ext ?_)
  match k with
  | ⟨0, _⟩ => exact Nat.zero_add b.val
  | ⟨1, _⟩ =>
    refine (congrArg (fun n : ℕ => n + 0 + 0) s1).trans ?_
    show min u 1023 = u % 1024
    omega
  | ⟨2, _⟩ =>
    refine (congrArg (fun n : ℕ => n + 0 + 0) s2).trans ?_
    show min v 1023 = v % 1024
    omega

/-- The reference's result at `(B, X, Y)`. -/
theorem scattered_at {a1 a2 a3 a4 : IVec Ents 32} (T : Table a1 a2 a3 a4) (x : FVec Ideal (⟨3, ![16, 1024, 1024]⟩ : Shape) .f32)
    (z : FVec Ideal (⟨3, ![16, 256, 256]⟩ : Shape) .f32) (n : IVec Ents2 32) (k : IVec Ents2 32)
    (hz : ∀ i, z i = (0 : EReal))
    (hn0 : ∀ l, n (ix2 l 0) = a3 (ix1 l)) (hn1 : ∀ l, n (ix2 l 1) = a4 (ix1 l))
    (hk0 : ∀ l, k (ix2 l 0) = a1 (ix1 l)) (hk1 : ∀ l, k (ix2 l 1) = a2 (ix1 l)) (B : Fin 16) (X Y : Fin 256) :
    Host.scatterAdd scatter_S16x256x256_S73984x2_S16x73984_0_12_12_1 z n (Host.gather gather_S16x1024x1024_S73984x2_S16x73984_0_12_n_n_12_1_1611 x k) (ix3 B X Y)
      = ∑ l ∈ Finset.univ.filter (fun l : Fin 73984 => poolN (a1 (ix1 l)).toNat = X.val ∧ poolN (a2 (ix1 l)).toNat = Y.val),
          rdX x B (a1 (ix1 l)).toNat (a2 (ix1 l)).toNat := by
  have p1 : ∀ l, (a3 (ix1 l)).toNat < 1024 := fun l => by rw [T.new1 l]; exact (poolN_lt (T.lt1 l)).trans (by decide)
  have p2 : ∀ l, (a4 (ix1 l)).toNat < 1024 := fun l => by rw [T.new2 l]; exact (poolN_lt (T.lt2 l)).trans (by decide)
  have lands : ∀ (b : Fin 16) (l : Fin 73984), Iff (scatter_S16x256x256_S73984x2_S16x73984_0_12_12_1.resultIdx? (ix2 b l) n = some (ix3 B X Y))
      (b = B ∧ poolN (a1 (ix1 l)).toNat = X.val ∧ poolN (a2 (ix1 l)).toNat = Y.val) := fun b l => by
    refine (update_lands n b l B X Y).trans ?_
    rw [hn0, hn1, toInt_small (p1 l), toInt_small (p2 l), T.new1 l, T.new2 l]
    omega
  show z (ix3 B X Y) + ∑ j ∈ Finset.univ.filter (fun j => scatter_S16x256x256_S73984x2_S16x73984_0_12_12_1.resultIdx? j n = some (ix3 B X Y)),
    Host.gather gather_S16x1024x1024_S73984x2_S16x73984_0_12_n_n_12_1_1611 x k j = _
  rw [hz, zero_add]
  symm
  refine Finset.sum_nbij (fun l => ix2 B l) ?_ ?_ ?_ ?_
  · intro l hl
    exact Finset.mem_filter.2 ⟨Finset.mem_univ _, (lands B l).2 ⟨rfl, (Finset.mem_filter.1 hl).2⟩⟩
  · intro l _ l' _ h
    exact ((ix2_inj _ _ _ _).1 h).2
  · intro j hj
    have hj := (Finset.mem_filter.1 (Finset.mem_coe.1 hj)).2
    obtain ⟨b, l, rfl⟩ : ∃ (b : Fin 16) (l : Fin 73984), j = ix2 b l := ⟨_, _, eq_ix2 j⟩
    obtain ⟨rfl, h⟩ := (lands b l).1 hj
    exact ⟨l, Finset.mem_coe.2 (Finset.mem_filter.2 ⟨Finset.mem_univ _, h⟩), rfl⟩
  · intro l _
    exact (gathered_at x k B l _ _ (by rw [hk0, toInt_small (T.lt1 l)]) (by rw [hk1, toInt_small (T.lt2 l)]) (T.lt1 l) (T.lt2 l)).symm

end Reads

/-! ## The entries pooled to one position -/

/-- The row (or column) of the input that is pooled to `X`, at depth `p` of the one spatial axis and `q` of the other. -/
def unpool (p q : Fin 2) (X : ℕ) : ℕ := 64 * (X / 16) + 32 * p.val + 2 * (X % 16) + q.val

theorem unpool_lt (p q : Fin 2) {X : ℕ} (h : X < 256) : unpool p q X < 1024 := by unfold unpool; omega
theorem poolN_unpool (p q : Fin 2) {X : ℕ} (h : X < 256) : poolN (unpool p q X) = X := by unfold unpool poolN; omega
theorem entry_unpool (p q : Fin 2) {X Y : ℕ} (hX : X < 256) (hY : Y < 256) :
    Iff (Entry (unpool p q X) (unpool p q Y)) ((p = 1 → X / 16 = Y / 16) ∧ (q = 1 → X % 16 = Y % 16)) := by
  have e1 : ∀ Z, Z < 256 → unpool p q Z / 32 = 2 * (Z / 16) + p.val := fun Z h => by unfold unpool; omega
  have e2 : ∀ Z, Z < 256 → unpool p q Z % 32 = 2 * (Z % 16) + q.val := fun Z h => by unfold unpool; omega
  unfold Entry Co
  rw [e1 X hX, e1 Y hY, e2 X hX, e2 Y hY]
  simp only [Fin.ext_iff]
  show Iff _ ((p.val = 1 → _) ∧ (q.val = 1 → _))
  omega
/-- An entry pooled to `(X, Y)` is at one depth on both sides. -/
theorem eq_unpool {x y : ℕ} (h : Entry x y) (hx : x < 1024) (hy : y < 1024) :
    ∃ p q : Fin 2, x = unpool p q (poolN x) ∧ y = unpool p q (poolN y) := by
  refine ⟨⟨x / 32 % 2, Nat.mod_lt _ (by decide)⟩, ⟨x % 32 % 2, Nat.mod_lt _ (by decide)⟩, ?_, ?_⟩
  · unfold unpool poolN; dsimp only; omega
  · have h1 := h.1.1
    have h2 := h.2.1
    unfold unpool poolN; dsimp only; omega

theorem unpool_inj {p q p' q' : Fin 2} {X : ℕ} (h : unpool p q X = unpool p' q' X) : p = p' ∧ q = q' := by
  unfold unpool at h
  constructor <;> apply Fin.ext <;> omega

/-- The sum over the table's entries pooled to `(X, Y)` is a sum over the two depths. -/
theorem sum_depths {a1 a2 a3 a4 : IVec Ents 32} (T : Table a1 a2 a3 a4) (f : ℕ → ℕ → EReal) (X Y : Fin 256) :
    (∑ l ∈ Finset.univ.filter (fun l : Fin 73984 => poolN (a1 (ix1 l)).toNat = X.val ∧ poolN (a2 (ix1 l)).toNat = Y.val),
        f (a1 (ix1 l)).toNat (a2 (ix1 l)).toNat)
      = ∑ d : Fin 2 × Fin 2, if (d.1 = 1 → X.val / 16 = Y.val / 16) ∧ (d.2 = 1 → X.val % 16 = Y.val % 16)
          then f (unpool d.1 d.2 X) (unpool d.1 d.2 Y) else 0 := by
  rw [← Finset.sum_filter]
  have pick : ∀ d : Fin 2 × Fin 2, (d.1 = 1 → X.val / 16 = Y.val / 16) ∧ (d.2 = 1 → X.val % 16 = Y.val % 16) →
      ∃ l, (a1 (ix1 l)).toNat = unpool d.1 d.2 X ∧ (a2 (ix1 l)).toNat = unpool d.1 d.2 Y := fun d hd =>
    T.all ⟨_, unpool_lt d.1 d.2 X.isLt⟩ ⟨_, unpool_lt d.1 d.2 Y.isLt⟩ ((entry_unpool d.1 d.2 X.isLt Y.isLt).2 hd)
  symm
  refine Finset.sum_bij (fun d hd => (pick d (Finset.mem_filter.1 hd).2).choose) ?_ ?_ ?_ ?_
  · intro d hd
    have h := (pick d (Finset.mem_filter.1 hd).2).choose_spec
    refine Finset.mem_filter.2 ⟨Finset.mem_univ _, ?_, ?_⟩
    · rw [h.1]; exact poolN_unpool _ _ X.isLt
    · rw [h.2]; exact poolN_unpool _ _ Y.isLt
  · intro d hd d' hd' e
    have h := (pick d (Finset.mem_filter.1 hd).2).choose_spec.1
    have h' := (pick d' (Finset.mem_filter.1 hd').2).choose_spec.1
    rw [e, h'] at h
    have := unpool_inj h
    exact Prod.ext this.1.symm this.2.symm
  · intro l hl
    obtain ⟨hX, hY⟩ := (Finset.mem_filter.1 hl).2
    obtain ⟨p, q, ex, ey⟩ := eq_unpool (T.entry l) (T.lt1 l) (T.lt2 l)
    rw [hX] at ex
    rw [hY] at ey
    have hd : (p = 1 → X.val / 16 = Y.val / 16) ∧ (q = 1 → X.val % 16 = Y.val % 16) := by
      refine (entry_unpool p q X.isLt Y.isLt).1 ?_
      have := T.entry l
      rwa [ex, ey] at this
    refine ⟨(p, q), Finset.mem_filter.2 ⟨Finset.mem_univ _, hd⟩, ?_⟩
    have h := (pick (p, q) hd).choose_spec
    exact T.once _ _ (h.1.trans ex.symm) (h.2.trans ey.symm)
  · intro d hd
    have h := (pick d (Finset.mem_filter.1 hd).2).choose_spec
    rw [h.1, h.2]

/-- The four terms. -/
theorem sum_four {a1 a2 a3 a4 : IVec Ents 32} (T : Table a1 a2 a3 a4) (f : ℕ → ℕ → EReal) (X Y : Fin 256) :
    (∑ l ∈ Finset.univ.filter (fun l : Fin 73984 => poolN (a1 (ix1 l)).toNat = X.val ∧ poolN (a2 (ix1 l)).toNat = Y.val),
        f (a1 (ix1 l)).toNat (a2 (ix1 l)).toNat)
      = f (unpool 0 0 X) (unpool 0 0 Y) + (if X.val % 16 = Y.val % 16 then f (unpool 0 1 X) (unpool 0 1 Y) else 0)
        + (if X.val / 16 = Y.val / 16 then f (unpool 1 0 X) (unpool 1 0 Y) + (if X.val % 16 = Y.val % 16 then f (unpool 1 1 X) (unpool 1 1 Y) else 0) else 0) := by
  rw [sum_depths T f X Y, Fintype.sum_prod_type]
  simp only [Fin.sum_univ_two]
  by_cases h1 : X.val / 16 = Y.val / 16 <;> by_cases h2 : X.val % 16 = Y.val % 16 <;> simp [h1, h2]

end Cert.Proof.Pool

end
-- ==== Proof.Equation.lean ====
/-
  The kernel's value over the extended reals is the reference's: each element of the kernel's result is the same four
  terms the reference adds.
-/
module

public import proofs.«01_k».proof.Proof.Launch
public import proofs.«01_k».proof.Proof.Sum
public import Idealize.ShloMosaic.PureOps.Ideal.Laws

@[expose] public section

noncomputable section

namespace Cert.Proof.Pool

open Idealize.ShloMosaic

/-- An element of a block, read by number. -/
theorem outBlk_at (g : ℕ) (R : Vec Ideal (⟨2, ![32, 1024]⟩ : Shape) .f32) (C : Vec Ideal (⟨2, ![32, 128]⟩ : Shape) .f32) (j : (⟨2, ![16, 256]⟩ : Shape).Idx)
    (t c : ℕ) (ht : (j 0).val = t) (hc : (j 1).val = c) :
    outBlk (F := Ideal) g R C j
      = ((if c / 16 = rowOf g then
            (if c % 16 = t then (rdR R (2 * t) (64 * (c / 16) + 2 * (c % 16)) : EReal) + rdR R (2 * t + 1) (64 * (c / 16) + 2 * t + 1)
              else rdR R (2 * t) (64 * (c / 16) + 2 * (c % 16)))
            + (rdC C (2 * t) (offOf g + 2 * (c % 16)) + (if c % 16 = t then rdC C (2 * t + 1) (offOf g + 2 * t + 1) else 0))
          else (if c % 16 = t then (rdR R (2 * t) (64 * (c / 16) + 2 * (c % 16)) : EReal) + rdR R (2 * t + 1) (64 * (c / 16) + 2 * t + 1)
              else rdR R (2 * t) (64 * (c / 16) + 2 * (c % 16)))) : EReal) := by
  subst ht hc
  rw [← (Ideal.ofBits_zero_f32 : (Scalar.ofBits (F := Ideal) .f32 0x00000000#32 : EReal) = 0)]
  rfl

/-- An element of the kernel's result, as four terms of the input. -/
theorem pooled_at (x : FVec Ideal (⟨3, ![16, 1024, 1024]⟩ : Shape) .f32) (B : Fin 16) (X Y : Fin 256) :
    pooled (F := Ideal) x (ix3 B X Y)
      = rdX x B (unpool 0 0 X) (unpool 0 0 Y) + (if X.val % 16 = Y.val % 16 then rdX x B (unpool 0 1 X) (unpool 0 1 Y) else 0)
        + (if X.val / 16 = Y.val / 16 then rdX x B (unpool 1 0 X) (unpool 1 0 Y) + (if X.val % 16 = Y.val % 16 then rdX x B (unpool 1 1 X) (unpool 1 1 Y) else 0) else 0) := by
  have hB := B.isLt
  have hX := X.isLt
  have hY := Y.isLt
  have hrow : rowOf (16 * B.val + X.val / 16) = X.val / 16 := by unfold rowOf; omega
  have hblk : (16 * B.val + X.val / 16) / 16 = B.val := by omega
  -- the fetched rows and window, read where a row of the block reads them
  have hR : ∀ a b r c : ℕ, a < 32 → b < 1024 → 64 * (X.val / 16) + a = r → b = c →
      rdR (rowsOf (F := Ideal) x (16 * B.val + X.val / 16)) a b = rdX x B r c := fun a b r c ha hb hr hc => by
    subst hr hc
    unfold rdR rowsOf rdX
    rw [hrow, hblk]
    refine congrArg x (idx3_eq ?_ ?_ ?_)
    · show B.val % 16 = B.val; omega
    · show (64 * (X.val / 16) + a % 32) % 1024 = (64 * (X.val / 16) + a) % 1024; omega
    · show b % 1024 % 1024 = b % 1024; omega
  have hC : ∀ a b r c : ℕ, a < 32 → b < 32 → 64 * (X.val / 16) + 32 + a = r → 64 * (X.val / 16) + 32 + b = c →
      rdC (colsOf (F := Ideal) x (16 * B.val + X.val / 16)) a (offOf (16 * B.val + X.val / 16) + b) = rdX x B r c := fun a b r c ha hb hr hc => by
    subst hr hc
    unfold rdC colsOf rdX
    rw [hrow, hblk]
    refine congrArg x (idx3_eq ?_ ?_ ?_)
    · show B.val % 16 = B.val; omega
    · show (64 * (X.val / 16) + 32 + a % 32) % 1024 = (64 * (X.val / 16) + 32 + a) % 1024; omega
    · show ((64 * (X.val / 16) + 32) / 128 * 128 + (offOf (16 * B.val + X.val / 16) + b) % 128) % 1024 = (64 * (X.val / 16) + 32 + b) % 1024
      unfold offOf; omega
  refine (outBlk_at (16 * B.val + X.val / 16) (rowsOf x (16 * B.val + X.val / 16)) (colsOf x (16 * B.val + X.val / 16))
    (ix2 (Fin.ofNat 16 X.val) (Fin.ofNat 256 Y.val)) (X.val % 16) Y.val rfl (Nat.mod_eq_of_lt hY)).trans ?_
  rw [hrow,
    hR (2 * (X.val % 16)) (64 * (Y.val / 16) + 2 * (Y.val % 16)) (unpool 0 0 X) (unpool 0 0 Y) (by omega) (by omega)
      (by unfold unpool; simp) (by unfold unpool; simp)]
  by_cases h1 : X.val / 16 = Y.val / 16 <;> by_cases h2 : X.val % 16 = Y.val % 16
  · rw [if_pos h1.symm, if_pos h2.symm, if_pos h2, if_pos h1,
      hR (2 * (X.val % 16) + 1) (64 * (Y.val / 16) + 2 * (X.val % 16) + 1) (unpool 0 1 X) (unpool 0 1 Y) (by omega) (by omega)
        (by unfold unpool; simp; omega) (by unfold unpool; simp; omega),
      hC (2 * (X.val % 16)) (2 * (Y.val % 16)) (unpool 1 0 X) (unpool 1 0 Y) (by omega) (by omega) (by unfold unpool; simp) (by unfold unpool; simp; omega)]
    rw [if_pos h2.symm, if_pos h2, Nat.add_assoc (offOf _),
      hC (2 * (X.val % 16) + 1) (2 * (X.val % 16) + 1) (unpool 1 1 X) (unpool 1 1 Y) (by omega) (by omega) (by unfold unpool; simp; omega) (by unfold unpool; simp; omega)]
  · rw [if_pos h1.symm, if_neg (fun e => h2 e.symm), if_neg h2, if_pos h1,
      hC (2 * (X.val % 16)) (2 * (Y.val % 16)) (unpool 1 0 X) (unpool 1 0 Y) (by omega) (by omega) (by unfold unpool; simp) (by unfold unpool; simp; omega)]
    rw [if_neg (fun e => h2 e.symm), if_neg h2, add_zero (rdX x B (unpool 0 0 X) (unpool 0 0 Y))]
  · rw [if_neg (fun e => h1 e.symm), if_pos h2.symm, if_pos h2, if_neg h1,
      hR (2 * (X.val % 16) + 1) (64 * (Y.val / 16) + 2 * (X.val % 16) + 1) (unpool 0 1 X) (unpool 0 1 Y) (by omega) (by omega)
        (by unfold unpool; simp; omega) (by unfold unpool; simp; omega), add_zero]
  · rw [if_neg (fun e => h1 e.symm), if_neg (fun e => h2 e.symm), if_neg h2, if_neg h1, add_zero, add_zero]

end Cert.Proof.Pool

end
-- ==== Proof.lean ====
/-
  The certificate of the pooling kernel: `Cert.Claim` (Defs.lean). The kernel's run with its value is Proof/Run.lean's
  `run_main`, at any float values; the reference's is the generated Proof/Gen/ReferenceIdeal/Run.lean's; that the two
  values agree where the index vectors are the mask's table is Proof/Equation.lean and Proof/Sum.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_problem_indices
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.Proof.Pool

/-! ## The runs -/

theorem frame_kernel : Cert.quiescent_Kernel := fun m ρ _ =>
  (θ_run Cert.KernelIdeal.defs _ _).mono (fun _ h => ⟨fun c => (h.1 c).1, h.2⟩) (run_main (F := Bits) m ρ)

theorem frame_kernelIdeal : Cert.quiescent_KernelIdeal := fun m ρ _ =>
  (θ_run Cert.KernelIdeal.defs _ _).mono (fun _ h => ⟨fun c => (h.1 c).1, h.2⟩) (run_main (F := Ideal) m ρ)

theorem frame_kernelIdeal_pre : Cert.quiescent_KernelIdeal_pre_problem_indices := fun m ρ _ => frame_kernelIdeal m ρ trivial

/-- The reference declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_problem_indices := fun m ρ _ => frame_reference m ρ trivial

/-! ## The value -/

/-- The reference's result array is the kernel's, where the index vectors are the mask's table. -/
theorem value_eq {a1 a2 a3 a4 : IVec Ents 32} (T : Table a1 a2 a3 a4) (x : FVec Ideal (⟨3, ![16, 1024, 1024]⟩ : Shape) .f32)
    (z : FVec Ideal (⟨3, ![16, 256, 256]⟩ : Shape) .f32) (n k : IVec Ents2 32) (hz : ∀ i, z i = (0 : EReal))
    (hn0 : ∀ l, n (ix2 l 0) = a3 (ix1 l)) (hn1 : ∀ l, n (ix2 l 1) = a4 (ix1 l))
    (hk0 : ∀ l, k (ix2 l 0) = a1 (ix1 l)) (hk1 : ∀ l, k (ix2 l 1) = a2 (ix1 l)) :
    (Host.scatterAdd Cert.ReferenceIdeal.scatter_S16x256x256_S73984x2_S16x73984_0_12_12_1 z n
        (Host.gather Cert.ReferenceIdeal.gather_S16x1024x1024_S73984x2_S16x73984_0_12_n_n_12_1_1611 x k) : FVec Ideal (⟨3, ![16, 256, 256]⟩ : Shape) .f32)
      = pooled (F := Ideal) x := by
  funext y
  obtain ⟨B, X, Y, rfl⟩ : ∃ (B : Fin 16) (X Y : Fin 256), y = ix3 B X Y := ⟨_, _, _, eq_ix3 y⟩
  exact (scattered_at T x z n k hz hn0 hn1 hk0 hk1 B X Y).trans ((sum_four T (rdX x B) X Y).trans (pooled_at x B X Y).symm)

theorem algebraic : Cert.algebraic_KernelIdeal_ReferenceIdeal_pre_problem_indices := by
  intro m ρ m' ρ' hpre hagree
  refine ⟨fun c => pooledAt (F := Ideal) m c,
    (θ_run Cert.KernelIdeal.defs _ _).mono (fun _ h c => ⟨(h.1 c).2, (h.1 c).1⟩) (run_main (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4⟩ := hagree c
  rw [e0, e1, e2, e3, e4]
  have T := table_of _ _ _ _ _ (hpre c).1 (hpre c).2
  have p1 : ∀ l, _ < 1024 := fun l => (T.new1 l).trans_lt ((poolN_lt (T.lt1 l)).trans (by decide))
  have p2 : ∀ l, _ < 1024 := fun l => (T.new2 l).trans_lt ((poolN_lt (T.lt2 l)).trans (by decide))
  refine value_eq T _ _ _ _ (fun _ => Ideal.ofBits_zero_f32) (fun l => ?_) (fun l => ?_) (fun l => ?_) (fun l => ?_)
  · exact (pairs_fst _ _ _ _ l).trans (wrapped_at _ _ _ l (p1 l))
  · exact (pairs_snd _ _ _ _ l).trans (wrapped_at _ _ _ l (p2 l))
  · exact (pairs_fst _ _ _ _ l).trans (wrapped_at _ _ _ l (T.lt1 l))
  · exact (pairs_snd _ _ _ _ l).trans (wrapped_at _ _ _ l (T.lt2 l))

theorem claim : Cert.Claim := ⟨Cert.Kernel.Gen.facts, Cert.KernelIdeal.Gen.facts, Cert.ReferenceIdeal.Gen.facts, Cert.Pre_problem_indices.Gen.facts,
  frame_kernel, frame_kernelIdeal, frame_kernelIdeal_pre, frame_reference, frame_reference_pre, trivial, algebraic⟩

end Cert.Proof

end
